-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 4096]⟩ ⟨2, ![8192, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048x4096 : Shape := ⟨2, ![2048, 4096]⟩
abbrev S2x2x1024x2048 : Shape := ⟨4, ![2, 2, 1024, 2048]⟩
abbrev S256x2048 : Shape := ⟨2, ![256, 2048]⟩
abbrev S2x256x2048 : Shape := ⟨3, ![2, 256, 2048]⟩
abbrev S4 : Shape := ⟨1, ![4]⟩
abbrev S_ : Shape := ⟨0, ![]⟩
abbrev S2 : Shape := ⟨1, ![2]⟩
abbrev S1 : Shape := ⟨1, ![1]⟩
abbrev S1x256x2048 : Shape := ⟨3, ![1, 256, 2048]⟩
abbrev S2048x2048 : Shape := ⟨2, ![2048, 2048]⟩
abbrev S1x1x256x2048 : Shape := ⟨4, ![1, 1, 256, 2048]⟩
abbrev S1x1x1024x2048 : Shape := ⟨4, ![1, 1, 1024, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S2048x4096, .f32⟩
  | .local _ .vmem, ⟨0, _⟩ => ⟨S2x2x1024x2048, .bf16⟩
  | .local _ .vmem, ⟨1, _⟩ => ⟨S2x2x1024x2048, .bf16⟩
  | .local _ .vmem, ⟨2, _⟩ => ⟨S2048x4096, .bf16⟩
  | .local _ .vmem, ⟨3, _⟩ => ⟨S256x2048, .f32⟩
  | .local _ .vmem, ⟨4, _⟩ => ⟨S2x256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 5 19 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 4

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
@[reducible] def k0_t1_loop : Scf.Loop 32 :=
  let c0_i32_133 : BitVec 32 := 0#32
  let c4_i32_134 : BitVec 32 := 4#32
  let v145 : BitVec 32 := Scalar.addi c0_i32_133 c4_i32_134
  let c1_i32_135 : BitVec 32 := 1#32
  ⟨c0_i32_133, v145, c1_i32_135⟩
def k0_off1 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_130 : BitVec 32 := 1#32
  let v141 : BitVec 32 := Scalar.subi v2 c1_i32_130
  let c0_i32_131 : BitVec 32 := 0#32
  let v142 : BitVec 32 := Scalar.subi v141 c0_i32_131
  let c8_i32 : BitVec 32 := 8#32
  let v143 : BitVec 32 := Scalar.addi v142 c8_i32
  let c4_i32_132 : BitVec 32 := 4#32
  let v144 : BitVec 32 := Scalar.remsi v143 c4_i32_132
  let c2048_i32_1319 : BitVec 32 := 2048#32
  let v1099 : BitVec 32 := Scalar.muli v144 c2048_i32_1319
  let c0_i32_1320 : BitVec 32 := 0#32
  let v1100 : BitVec 32 := Scalar.addi v1099 c0_i32_1320
  let c0_i32_133 : BitVec 32 := 0#32
  let c1_i32_135 : BitVec 32 := 1#32
  let arg15 : BitVec 32 := Scf.iv c0_i32_133 c1_i32_135 k0_t1
  let c256_i32_1321 : BitVec 32 := 256#32
  let v1101 : BitVec 32 := Scalar.muli arg15 c256_i32_1321
  let v1102 : BitVec 32 := Scalar.addi v1100 v1101
  let c0_i32_1322 : BitVec 32 := 0#32
  ![v1102.toNat, 0]
def k0_off2 (k0_t1 : Fin k0_t1_loop.trips) : Fin 4 → Nat :=
  let c0_1330 : Index := 0#32
  let c0_1331 : Index := 0#32
  let c0_i32_133 : BitVec 32 := 0#32
  let c1_i32_135 : BitVec 32 := 1#32
  let arg15 : BitVec 32 := Scf.iv c0_i32_133 c1_i32_135 k0_t1
  let c256_i32_1329 : BitVec 32 := 256#32
  let v1109 : BitVec 32 := Scalar.muli arg15 c256_i32_1329
  let v1111 : Index := Scalar.indexCast v1109
  let c0_1332 : Index := 0#32
  ![0, 0, v1111.toNat, 0]
def k0_dev3 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_139 : BitVec 32 := 1#32
  let v148 : BitVec 32 := Scalar.muli v7 c1_i32_139
  let v149 : BitVec 32 := Scalar.addi c0_i32_140 v148
  v149.toNat
def k0_dev4 (d0 : Dev nD) : Nat :=
  let c0_i32_151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_150 : BitVec 32 := 1#32
  let v152 : BitVec 32 := Scalar.muli v4 c1_i32_150
  let v153 : BitVec 32 := Scalar.addi c0_i32_151 v152
  v153.toNat
@[reducible] def k0_t2_loop : Scf.Loop 32 :=
  let c0_i32_293 : BitVec 32 := 0#32
  let c4_i32_294 : BitVec 32 := 4#32
  let v293 : BitVec 32 := Scalar.addi c0_i32_293 c4_i32_294
  let c1_i32_295 : BitVec 32 := 1#32
  ⟨c0_i32_293, v293, c1_i32_295⟩
def k0_off3 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_290 : BitVec 32 := 1#32
  let v290 : BitVec 32 := Scalar.addi v2 c1_i32_290
  let c0_i32_291 : BitVec 32 := 0#32
  let v291 : BitVec 32 := Scalar.addi v290 c0_i32_291
  let c4_i32_292 : BitVec 32 := 4#32
  let v292 : BitVec 32 := Scalar.remsi v291 c4_i32_292
  let c2048_i32_1319 : BitVec 32 := 2048#32
  let v1099 : BitVec 32 := Scalar.muli v292 c2048_i32_1319
  let c0_i32_1320 : BitVec 32 := 0#32
  let v1100 : BitVec 32 := Scalar.addi v1099 c0_i32_1320
  let c0_i32_293 : BitVec 32 := 0#32
  let c1_i32_295 : BitVec 32 := 1#32
  let arg15 : BitVec 32 := Scf.iv c0_i32_293 c1_i32_295 k0_t2
  let c256_i32_1321 : BitVec 32 := 256#32
  let v1101 : BitVec 32 := Scalar.muli arg15 c256_i32_1321
  let v1102 : BitVec 32 := Scalar.addi v1100 v1101
  let c0_i32_1322 : BitVec 32 := 0#32
  ![v1102.toNat, 0]
def k0_off4 (k0_t2 : Fin k0_t2_loop.trips) : Fin 4 → Nat :=
  let c0_1330 : Index := 0#32
  let c0_1331 : Index := 0#32
  let c0_i32_293 : BitVec 32 := 0#32
  let c1_i32_295 : BitVec 32 := 1#32
  let arg15 : BitVec 32 := Scf.iv c0_i32_293 c1_i32_295 k0_t2
  let c256_i32_1329 : BitVec 32 := 256#32
  let v1109 : BitVec 32 := Scalar.muli arg15 c256_i32_1329
  let v1111 : Index := Scalar.indexCast v1109
  let c0_1332 : Index := 0#32
  ![0, 0, v1111.toNat, 0]
def k0_dev5 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_299 : BitVec 32 := 1#32
  let v296 : BitVec 32 := Scalar.muli v4 c1_i32_299
  let v297 : BitVec 32 := Scalar.addi c0_i32_300 v296
  v297.toNat
def k0_dev6 (d0 : Dev nD) : Nat :=
  let c0_i32_311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_310 : BitVec 32 := 1#32
  let v300 : BitVec 32 := Scalar.muli v7 c1_i32_310
  let v301 : BitVec 32 := Scalar.addi c0_i32_311 v300
  v301.toNat
@[reducible] def k0_t3_loop : Scf.Loop 32 :=
  let c0_i32_320 : BitVec 32 := 0#32
  let c4_i32_321 : BitVec 32 := 4#32
  let v314 : BitVec 32 := Scalar.addi c0_i32_320 c4_i32_321
  let c1_i32_322 : BitVec 32 := 1#32
  ⟨c0_i32_320, v314, c1_i32_322⟩
def k0_off5 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_316 : BitVec 32 := 1#32
  let v310 : BitVec 32 := Scalar.subi v2 c1_i32_316
  let c0_i32_317 : BitVec 32 := 0#32
  let v311 : BitVec 32 := Scalar.subi v310 c0_i32_317
  let c8_i32_318 : BitVec 32 := 8#32
  let v312 : BitVec 32 := Scalar.addi v311 c8_i32_318
  let c4_i32_319 : BitVec 32 := 4#32
  let v313 : BitVec 32 := Scalar.remsi v312 c4_i32_319
  let c2048_i32_1319 : BitVec 32 := 2048#32
  let v1099 : BitVec 32 := Scalar.muli v313 c2048_i32_1319
  let c1024_i32_1320 : BitVec 32 := 1024#32
  let v1100 : BitVec 32 := Scalar.addi v1099 c1024_i32_1320
  let c0_i32_320 : BitVec 32 := 0#32
  let c1_i32_322 : BitVec 32 := 1#32
  let arg15 : BitVec 32 := Scf.iv c0_i32_320 c1_i32_322 k0_t3
  let c256_i32_1321 : BitVec 32 := 256#32
  let v1101 : BitVec 32 := Scalar.muli arg15 c256_i32_1321
  let v1102 : BitVec 32 := Scalar.addi v1100 v1101
  let c0_i32_1322 : BitVec 32 := 0#32
  ![v1102.toNat, 0]
def k0_off6 (k0_t3 : Fin k0_t3_loop.trips) : Fin 4 → Nat :=
  let c1_1330 : Index := 1#32
  let c0_1331 : Index := 0#32
  let c0_i32_320 : BitVec 32 := 0#32
  let c1_i32_322 : BitVec 32 := 1#32
  let arg15 : BitVec 32 := Scf.iv c0_i32_320 c1_i32_322 k0_t3
  let c256_i32_1329 : BitVec 32 := 256#32
  let v1109 : BitVec 32 := Scalar.muli arg15 c256_i32_1329
  let v1111 : Index := Scalar.indexCast v1109
  let c0_1332 : Index := 0#32
  ![1, 0, v1111.toNat, 0]
def k0_dev7 (d0 : Dev nD) : Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_326 : BitVec 32 := 1#32
  let v317 : BitVec 32 := Scalar.muli v7 c1_i32_326
  let v318 : BitVec 32 := Scalar.addi c0_i32_327 v317
  v318.toNat
def k0_dev8 (d0 : Dev nD) : Nat :=
  let c0_i32_337 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_336 : BitVec 32 := 1#32
  let v321 : BitVec 32 := Scalar.muli v4 c1_i32_336
  let v322 : BitVec 32 := Scalar.addi c0_i32_337 v321
  v322.toNat
@[reducible] def k0_t4_loop : Scf.Loop 32 :=
  let c0_i32_345 : BitVec 32 := 0#32
  let c4_i32_346 : BitVec 32 := 4#32
  let v334 : BitVec 32 := Scalar.addi c0_i32_345 c4_i32_346
  let c1_i32_347 : BitVec 32 := 1#32
  ⟨c0_i32_345, v334, c1_i32_347⟩
def k0_off7 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_342 : BitVec 32 := 1#32
  let v331 : BitVec 32 := Scalar.addi v2 c1_i32_342
  let c0_i32_343 : BitVec 32 := 0#32
  let v332 : BitVec 32 := Scalar.addi v331 c0_i32_343
  let c4_i32_344 : BitVec 32 := 4#32
  let v333 : BitVec 32 := Scalar.remsi v332 c4_i32_344
  let c2048_i32_1319 : BitVec 32 := 2048#32
  let v1099 : BitVec 32 := Scalar.muli v333 c2048_i32_1319
  let c1024_i32_1320 : BitVec 32 := 1024#32
  let v1100 : BitVec 32 := Scalar.addi v1099 c1024_i32_1320
  let c0_i32_345 : BitVec 32 := 0#32
  let c1_i32_347 : BitVec 32 := 1#32
  let arg15 : BitVec 32 := Scf.iv c0_i32_345 c1_i32_347 k0_t4
  let c256_i32_1321 : BitVec 32 := 256#32
  let v1101 : BitVec 32 := Scalar.muli arg15 c256_i32_1321
  let v1102 : BitVec 32 := Scalar.addi v1100 v1101
  let c0_i32_1322 : BitVec 32 := 0#32
  ![v1102.toNat, 0]
def k0_off8 (k0_t4 : Fin k0_t4_loop.trips) : Fin 4 → Nat :=
  let c1_1330 : Index := 1#32
  let c0_1331 : Index := 0#32
  let c0_i32_345 : BitVec 32 := 0#32
  let c1_i32_347 : BitVec 32 := 1#32
  let arg15 : BitVec 32 := Scf.iv c0_i32_345 c1_i32_347 k0_t4
  let c256_i32_1329 : BitVec 32 := 256#32
  let v1109 : BitVec 32 := Scalar.muli arg15 c256_i32_1329
  let v1111 : Index := Scalar.indexCast v1109
  let c0_1332 : Index := 0#32
  ![1, 0, v1111.toNat, 0]
def k0_dev9 (d0 : Dev nD) : Nat :=
  let c0_i32_352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_351 : BitVec 32 := 1#32
  let v337 : BitVec 32 := Scalar.muli v4 c1_i32_351
  let v338 : BitVec 32 := Scalar.addi c0_i32_352 v337
  v338.toNat
def k0_dev10 (d0 : Dev nD) : Nat :=
  let c0_i32_363 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_362 : BitVec 32 := 1#32
  let v341 : BitVec 32 := Scalar.muli v7 c1_i32_362
  let v342 : BitVec 32 := Scalar.addi c0_i32_363 v341
  v342.toNat
@[reducible] def k0_t5_loop : Scf.Loop 32 :=
  let c0_i32_384 : BitVec 32 := 0#32
  let c4_i32_385 : BitVec 32 := 4#32
  let v363 : BitVec 32 := Scalar.addi c0_i32_384 c4_i32_385
  let c1_i32_386 : BitVec 32 := 1#32
  ⟨c0_i32_384, v363, c1_i32_386⟩
def k0_off9 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_380 : BitVec 32 := 1#32
  let v359 : BitVec 32 := Scalar.subi v2 c1_i32_380
  let c1_i32_381 : BitVec 32 := 1#32
  let v360 : BitVec 32 := Scalar.subi v359 c1_i32_381
  let c8_i32_382 : BitVec 32 := 8#32
  let v361 : BitVec 32 := Scalar.addi v360 c8_i32_382
  let c4_i32_383 : BitVec 32 := 4#32
  let v362 : BitVec 32 := Scalar.remsi v361 c4_i32_383
  let c2048_i32_1319 : BitVec 32 := 2048#32
  let v1099 : BitVec 32 := Scalar.muli v362 c2048_i32_1319
  let c0_i32_1320 : BitVec 32 := 0#32
  let v1100 : BitVec 32 := Scalar.addi v1099 c0_i32_1320
  let c0_i32_384 : BitVec 32 := 0#32
  let c1_i32_386 : BitVec 32 := 1#32
  let arg15 : BitVec 32 := Scf.iv c0_i32_384 c1_i32_386 k0_t5
  let c256_i32_1321 : BitVec 32 := 256#32
  let v1101 : BitVec 32 := Scalar.muli arg15 c256_i32_1321
  let v1102 : BitVec 32 := Scalar.addi v1100 v1101
  let c0_i32_1322 : BitVec 32 := 0#32
  ![v1102.toNat, 0]
def k0_off10 (k0_t5 : Fin k0_t5_loop.trips) : Fin 4 → Nat :=
  let c0_1330 : Index := 0#32
  let c1_1331 : Index := 1#32
  let c0_i32_384 : BitVec 32 := 0#32
  let c1_i32_386 : BitVec 32 := 1#32
  let arg15 : BitVec 32 := Scf.iv c0_i32_384 c1_i32_386 k0_t5
  let c256_i32_1329 : BitVec 32 := 256#32
  let v1109 : BitVec 32 := Scalar.muli arg15 c256_i32_1329
  let v1110 : Index := Scalar.indexCast v1109
  let c0_1332 : Index := 0#32
  ![0, 1, v1110.toNat, 0]
def k0_dev11 (d0 : Dev nD) : Nat :=
  let c0_i32_402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_401 : BitVec 32 := 1#32
  let v372 : BitVec 32 := Scalar.muli v7 c1_i32_401
  let v373 : BitVec 32 := Scalar.addi c0_i32_402 v372
  v373.toNat
def k0_dev12 (d0 : Dev nD) : Nat :=
  let c0_i32_413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_412 : BitVec 32 := 1#32
  let v376 : BitVec 32 := Scalar.muli v4 c1_i32_412
  let v377 : BitVec 32 := Scalar.addi c0_i32_413 v376
  v377.toNat
@[reducible] def k0_t6_loop : Scf.Loop 32 :=
  let c0_i32_433 : BitVec 32 := 0#32
  let c4_i32_434 : BitVec 32 := 4#32
  let v397 : BitVec 32 := Scalar.addi c0_i32_433 c4_i32_434
  let c1_i32_435 : BitVec 32 := 1#32
  ⟨c0_i32_433, v397, c1_i32_435⟩
def k0_off11 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_430 : BitVec 32 := 1#32
  let v394 : BitVec 32 := Scalar.addi v2 c1_i32_430
  let c1_i32_431 : BitVec 32 := 1#32
  let v395 : BitVec 32 := Scalar.addi v394 c1_i32_431
  let c4_i32_432 : BitVec 32 := 4#32
  let v396 : BitVec 32 := Scalar.remsi v395 c4_i32_432
  let c2048_i32_1319 : BitVec 32 := 2048#32
  let v1099 : BitVec 32 := Scalar.muli v396 c2048_i32_1319
  let c0_i32_1320 : BitVec 32 := 0#32
  let v1100 : BitVec 32 := Scalar.addi v1099 c0_i32_1320
  let c0_i32_433 : BitVec 32 := 0#32
  let c1_i32_435 : BitVec 32 := 1#32
  let arg15 : BitVec 32 := Scf.iv c0_i32_433 c1_i32_435 k0_t6
  let c256_i32_1321 : BitVec 32 := 256#32
  let v1101 : BitVec 32 := Scalar.muli arg15 c256_i32_1321
  let v1102 : BitVec 32 := Scalar.addi v1100 v1101
  let c0_i32_1322 : BitVec 32 := 0#32
  ![v1102.toNat, 0]
def k0_off12 (k0_t6 : Fin k0_t6_loop.trips) : Fin 4 → Nat :=
  let c0_1330 : Index := 0#32
  let c1_1331 : Index := 1#32
  let c0_i32_433 : BitVec 32 := 0#32
  let c1_i32_435 : BitVec 32 := 1#32
  let arg15 : BitVec 32 := Scf.iv c0_i32_433 c1_i32_435 k0_t6
  let c256_i32_1329 : BitVec 32 := 256#32
  let v1109 : BitVec 32 := Scalar.muli arg15 c256_i32_1329
  let v1110 : Index := Scalar.indexCast v1109
  let c0_1332 : Index := 0#32
  ![0, 1, v1110.toNat, 0]
def k0_dev13 (d0 : Dev nD) : Nat :=
  let c0_i32_451 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_450 : BitVec 32 := 1#32
  let v406 : BitVec 32 := Scalar.muli v4 c1_i32_450
  let v407 : BitVec 32 := Scalar.addi c0_i32_451 v406
  v407.toNat
def k0_dev14 (d0 : Dev nD) : Nat :=
  let c0_i32_462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_461 : BitVec 32 := 1#32
  let v410 : BitVec 32 := Scalar.muli v7 c1_i32_461
  let v411 : BitVec 32 := Scalar.addi c0_i32_462 v410
  v411.toNat
@[reducible] def k0_t7_loop : Scf.Loop 32 :=
  let c0_i32_483 : BitVec 32 := 0#32
  let c4_i32_484 : BitVec 32 := 4#32
  let v432 : BitVec 32 := Scalar.addi c0_i32_483 c4_i32_484
  let c1_i32_485 : BitVec 32 := 1#32
  ⟨c0_i32_483, v432, c1_i32_485⟩
def k0_off13 (d0 : Dev nD) (k0_t7 : Fin k0_t7_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_479 : BitVec 32 := 1#32
  let v428 : BitVec 32 := Scalar.subi v2 c1_i32_479
  let c1_i32_480 : BitVec 32 := 1#32
  let v429 : BitVec 32 := Scalar.subi v428 c1_i32_480
  let c8_i32_481 : BitVec 32 := 8#32
  let v430 : BitVec 32 := Scalar.addi v429 c8_i32_481
  let c4_i32_482 : BitVec 32 := 4#32
  let v431 : BitVec 32 := Scalar.remsi v430 c4_i32_482
  let c2048_i32_1319 : BitVec 32 := 2048#32
  let v1099 : BitVec 32 := Scalar.muli v431 c2048_i32_1319
  let c1024_i32_1320 : BitVec 32 := 1024#32
  let v1100 : BitVec 32 := Scalar.addi v1099 c1024_i32_1320
  let c0_i32_483 : BitVec 32 := 0#32
  let c1_i32_485 : BitVec 32 := 1#32
  let arg15 : BitVec 32 := Scf.iv c0_i32_483 c1_i32_485 k0_t7
  let c256_i32_1321 : BitVec 32 := 256#32
  let v1101 : BitVec 32 := Scalar.muli arg15 c256_i32_1321
  let v1102 : BitVec 32 := Scalar.addi v1100 v1101
  let c0_i32_1322 : BitVec 32 := 0#32
  ![v1102.toNat, 0]
def k0_off14 (k0_t7 : Fin k0_t7_loop.trips) : Fin 4 → Nat :=
  let c1_1330 : Index := 1#32
  let c1_1331 : Index := 1#32
  let c0_i32_483 : BitVec 32 := 0#32
  let c1_i32_485 : BitVec 32 := 1#32
  let arg15 : BitVec 32 := Scf.iv c0_i32_483 c1_i32_485 k0_t7
  let c256_i32_1329 : BitVec 32 := 256#32
  let v1109 : BitVec 32 := Scalar.muli arg15 c256_i32_1329
  let v1110 : Index := Scalar.indexCast v1109
  let c0_1332 : Index := 0#32
  ![1, 1, v1110.toNat, 0]
def k0_dev15 (d0 : Dev nD) : Nat :=
  let c0_i32_501 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_500 : BitVec 32 := 1#32
  let v441 : BitVec 32 := Scalar.muli v7 c1_i32_500
  let v442 : BitVec 32 := Scalar.addi c0_i32_501 v441
  v442.toNat
def k0_dev16 (d0 : Dev nD) : Nat :=
  let c0_i32_512 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_511 : BitVec 32 := 1#32
  let v445 : BitVec 32 := Scalar.muli v4 c1_i32_511
  let v446 : BitVec 32 := Scalar.addi c0_i32_512 v445
  v446.toNat
@[reducible] def k0_t8_loop : Scf.Loop 32 :=
  let c0_i32_532 : BitVec 32 := 0#32
  let c4_i32_533 : BitVec 32 := 4#32
  let v466 : BitVec 32 := Scalar.addi c0_i32_532 c4_i32_533
  let c1_i32_534 : BitVec 32 := 1#32
  ⟨c0_i32_532, v466, c1_i32_534⟩
def k0_off15 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_529 : BitVec 32 := 1#32
  let v463 : BitVec 32 := Scalar.addi v2 c1_i32_529
  let c1_i32_530 : BitVec 32 := 1#32
  let v464 : BitVec 32 := Scalar.addi v463 c1_i32_530
  let c4_i32_531 : BitVec 32 := 4#32
  let v465 : BitVec 32 := Scalar.remsi v464 c4_i32_531
  let c2048_i32_1319 : BitVec 32 := 2048#32
  let v1099 : BitVec 32 := Scalar.muli v465 c2048_i32_1319
  let c1024_i32_1320 : BitVec 32 := 1024#32
  let v1100 : BitVec 32 := Scalar.addi v1099 c1024_i32_1320
  let c0_i32_532 : BitVec 32 := 0#32
  let c1_i32_534 : BitVec 32 := 1#32
  let arg15 : BitVec 32 := Scf.iv c0_i32_532 c1_i32_534 k0_t8
  let c256_i32_1321 : BitVec 32 := 256#32
  let v1101 : BitVec 32 := Scalar.muli arg15 c256_i32_1321
  let v1102 : BitVec 32 := Scalar.addi v1100 v1101
  let c0_i32_1322 : BitVec 32 := 0#32
  ![v1102.toNat, 0]
def k0_off16 (k0_t8 : Fin k0_t8_loop.trips) : Fin 4 → Nat :=
  let c1_1330 : Index := 1#32
  let c1_1331 : Index := 1#32
  let c0_i32_532 : BitVec 32 := 0#32
  let c1_i32_534 : BitVec 32 := 1#32
  let arg15 : BitVec 32 := Scf.iv c0_i32_532 c1_i32_534 k0_t8
  let c256_i32_1329 : BitVec 32 := 256#32
  let v1109 : BitVec 32 := Scalar.muli arg15 c256_i32_1329
  let v1110 : Index := Scalar.indexCast v1109
  let c0_1332 : Index := 0#32
  ![1, 1, v1110.toNat, 0]
def k0_dev17 (d0 : Dev nD) : Nat :=
  let c0_i32_550 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_549 : BitVec 32 := 1#32
  let v475 : BitVec 32 := Scalar.muli v4 c1_i32_549
  let v476 : BitVec 32 := Scalar.addi c0_i32_550 v475
  v476.toNat
def k0_dev18 (d0 : Dev nD) : Nat :=
  let c0_i32_561 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_560 : BitVec 32 := 1#32
  let v479 : BitVec 32 := Scalar.muli v7 c1_i32_560
  let v480 : BitVec 32 := Scalar.addi c0_i32_561 v479
  v480.toNat
@[reducible] def k0_t9_loop : Scf.Loop 32 :=
  let c0_i32_582 : BitVec 32 := 0#32
  let c4_i32_583 : BitVec 32 := 4#32
  let v501 : BitVec 32 := Scalar.addi c0_i32_582 c4_i32_583
  let c1_i32_584 : BitVec 32 := 1#32
  ⟨c0_i32_582, v501, c1_i32_584⟩
def k0_off17 (d0 : Dev nD) (k0_t9 : Fin k0_t9_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_578 : BitVec 32 := 1#32
  let v497 : BitVec 32 := Scalar.subi v2 c1_i32_578
  let c2_i32_579 : BitVec 32 := 2#32
  let v498 : BitVec 32 := Scalar.subi v497 c2_i32_579
  let c8_i32_580 : BitVec 32 := 8#32
  let v499 : BitVec 32 := Scalar.addi v498 c8_i32_580
  let c4_i32_581 : BitVec 32 := 4#32
  let v500 : BitVec 32 := Scalar.remsi v499 c4_i32_581
  let c2048_i32_1319 : BitVec 32 := 2048#32
  let v1099 : BitVec 32 := Scalar.muli v500 c2048_i32_1319
  let c0_i32_1320 : BitVec 32 := 0#32
  let v1100 : BitVec 32 := Scalar.addi v1099 c0_i32_1320
  let c0_i32_582 : BitVec 32 := 0#32
  let c1_i32_584 : BitVec 32 := 1#32
  let arg15 : BitVec 32 := Scf.iv c0_i32_582 c1_i32_584 k0_t9
  let c256_i32_1321 : BitVec 32 := 256#32
  let v1101 : BitVec 32 := Scalar.muli arg15 c256_i32_1321
  let v1102 : BitVec 32 := Scalar.addi v1100 v1101
  let c0_i32_1322 : BitVec 32 := 0#32
  ![v1102.toNat, 0]
def k0_off18 (k0_t9 : Fin k0_t9_loop.trips) : Fin 4 → Nat :=
  let c0_1330 : Index := 0#32
  let c0_1331 : Index := 0#32
  let c0_i32_582 : BitVec 32 := 0#32
  let c1_i32_584 : BitVec 32 := 1#32
  let arg15 : BitVec 32 := Scf.iv c0_i32_582 c1_i32_584 k0_t9
  let c256_i32_1329 : BitVec 32 := 256#32
  let v1109 : BitVec 32 := Scalar.muli arg15 c256_i32_1329
  let v1110 : Index := Scalar.indexCast v1109
  let c0_1332 : Index := 0#32
  ![0, 0, v1110.toNat, 0]
def k0_dev19 (d0 : Dev nD) : Nat :=
  let c0_i32_600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_599 : BitVec 32 := 1#32
  let v510 : BitVec 32 := Scalar.muli v7 c1_i32_599
  let v511 : BitVec 32 := Scalar.addi c0_i32_600 v510
  v511.toNat
def k0_dev20 (d0 : Dev nD) : Nat :=
  let c0_i32_611 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_610 : BitVec 32 := 1#32
  let v514 : BitVec 32 := Scalar.muli v4 c1_i32_610
  let v515 : BitVec 32 := Scalar.addi c0_i32_611 v514
  v515.toNat
@[reducible] def k0_t10_loop : Scf.Loop 32 :=
  let c0_i32_631 : BitVec 32 := 0#32
  let c4_i32_632 : BitVec 32 := 4#32
  let v535 : BitVec 32 := Scalar.addi c0_i32_631 c4_i32_632
  let c1_i32_633 : BitVec 32 := 1#32
  ⟨c0_i32_631, v535, c1_i32_633⟩
def k0_off19 (d0 : Dev nD) (k0_t10 : Fin k0_t10_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_628 : BitVec 32 := 1#32
  let v532 : BitVec 32 := Scalar.addi v2 c1_i32_628
  let c2_i32_629 : BitVec 32 := 2#32
  let v533 : BitVec 32 := Scalar.addi v532 c2_i32_629
  let c4_i32_630 : BitVec 32 := 4#32
  let v534 : BitVec 32 := Scalar.remsi v533 c4_i32_630
  let c2048_i32_1319 : BitVec 32 := 2048#32
  let v1099 : BitVec 32 := Scalar.muli v534 c2048_i32_1319
  let c0_i32_1320 : BitVec 32 := 0#32
  let v1100 : BitVec 32 := Scalar.addi v1099 c0_i32_1320
  let c0_i32_631 : BitVec 32 := 0#32
  let c1_i32_633 : BitVec 32 := 1#32
  let arg15 : BitVec 32 := Scf.iv c0_i32_631 c1_i32_633 k0_t10
  let c256_i32_1321 : BitVec 32 := 256#32
  let v1101 : BitVec 32 := Scalar.muli arg15 c256_i32_1321
  let v1102 : BitVec 32 := Scalar.addi v1100 v1101
  let c0_i32_1322 : BitVec 32 := 0#32
  ![v1102.toNat, 0]
def k0_off20 (k0_t10 : Fin k0_t10_loop.trips) : Fin 4 → Nat :=
  let c0_1330 : Index := 0#32
  let c0_1331 : Index := 0#32
  let c0_i32_631 : BitVec 32 := 0#32
  let c1_i32_633 : BitVec 32 := 1#32
  let arg15 : BitVec 32 := Scf.iv c0_i32_631 c1_i32_633 k0_t10
  let c256_i32_1329 : BitVec 32 := 256#32
  let v1109 : BitVec 32 := Scalar.muli arg15 c256_i32_1329
  let v1110 : Index := Scalar.indexCast v1109
  let c0_1332 : Index := 0#32
  ![0, 0, v1110.toNat, 0]
def k0_dev21 (d0 : Dev nD) : Nat :=
  let c0_i32_649 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_648 : BitVec 32 := 1#32
  let v544 : BitVec 32 := Scalar.muli v4 c1_i32_648
  let v545 : BitVec 32 := Scalar.addi c0_i32_649 v544
  v545.toNat
def k0_dev22 (d0 : Dev nD) : Nat :=
  let c0_i32_660 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_659 : BitVec 32 := 1#32
  let v548 : BitVec 32 := Scalar.muli v7 c1_i32_659
  let v549 : BitVec 32 := Scalar.addi c0_i32_660 v548
  v549.toNat
@[reducible] def k0_t11_loop : Scf.Loop 32 :=
  let c0_i32_681 : BitVec 32 := 0#32
  let c4_i32_682 : BitVec 32 := 4#32
  let v570 : BitVec 32 := Scalar.addi c0_i32_681 c4_i32_682
  let c1_i32_683 : BitVec 32 := 1#32
  ⟨c0_i32_681, v570, c1_i32_683⟩
def k0_off21 (d0 : Dev nD) (k0_t11 : Fin k0_t11_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_677 : BitVec 32 := 1#32
  let v566 : BitVec 32 := Scalar.subi v2 c1_i32_677
  let c2_i32_678 : BitVec 32 := 2#32
  let v567 : BitVec 32 := Scalar.subi v566 c2_i32_678
  let c8_i32_679 : BitVec 32 := 8#32
  let v568 : BitVec 32 := Scalar.addi v567 c8_i32_679
  let c4_i32_680 : BitVec 32 := 4#32
  let v569 : BitVec 32 := Scalar.remsi v568 c4_i32_680
  let c2048_i32_1319 : BitVec 32 := 2048#32
  let v1099 : BitVec 32 := Scalar.muli v569 c2048_i32_1319
  let c1024_i32_1320 : BitVec 32 := 1024#32
  let v1100 : BitVec 32 := Scalar.addi v1099 c1024_i32_1320
  let c0_i32_681 : BitVec 32 := 0#32
  let c1_i32_683 : BitVec 32 := 1#32
  let arg15 : BitVec 32 := Scf.iv c0_i32_681 c1_i32_683 k0_t11
  let c256_i32_1321 : BitVec 32 := 256#32
  let v1101 : BitVec 32 := Scalar.muli arg15 c256_i32_1321
  let v1102 : BitVec 32 := Scalar.addi v1100 v1101
  let c0_i32_1322 : BitVec 32 := 0#32
  ![v1102.toNat, 0]
def k0_off22 (k0_t11 : Fin k0_t11_loop.trips) : Fin 4 → Nat :=
  let c1_1330 : Index := 1#32
  let c0_1331 : Index := 0#32
  let c0_i32_681 : BitVec 32 := 0#32
  let c1_i32_683 : BitVec 32 := 1#32
  let arg15 : BitVec 32 := Scf.iv c0_i32_681 c1_i32_683 k0_t11
  let c256_i32_1329 : BitVec 32 := 256#32
  let v1109 : BitVec 32 := Scalar.muli arg15 c256_i32_1329
  let v1110 : Index := Scalar.indexCast v1109
  let c0_1332 : Index := 0#32
  ![1, 0, v1110.toNat, 0]
def k0_dev23 (d0 : Dev nD) : Nat :=
  let c0_i32_699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_698 : BitVec 32 := 1#32
  let v579 : BitVec 32 := Scalar.muli v7 c1_i32_698
  let v580 : BitVec 32 := Scalar.addi c0_i32_699 v579
  v580.toNat
def k0_dev24 (d0 : Dev nD) : Nat :=
  let c0_i32_710 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_709 : BitVec 32 := 1#32
  let v583 : BitVec 32 := Scalar.muli v4 c1_i32_709
  let v584 : BitVec 32 := Scalar.addi c0_i32_710 v583
  v584.toNat
@[reducible] def k0_t12_loop : Scf.Loop 32 :=
  let c0_i32_730 : BitVec 32 := 0#32
  let c4_i32_731 : BitVec 32 := 4#32
  let v604 : BitVec 32 := Scalar.addi c0_i32_730 c4_i32_731
  let c1_i32_732 : BitVec 32 := 1#32
  ⟨c0_i32_730, v604, c1_i32_732⟩
def k0_off23 (d0 : Dev nD) (k0_t12 : Fin k0_t12_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_727 : BitVec 32 := 1#32
  let v601 : BitVec 32 := Scalar.addi v2 c1_i32_727
  let c2_i32_728 : BitVec 32 := 2#32
  let v602 : BitVec 32 := Scalar.addi v601 c2_i32_728
  let c4_i32_729 : BitVec 32 := 4#32
  let v603 : BitVec 32 := Scalar.remsi v602 c4_i32_729
  let c2048_i32_1319 : BitVec 32 := 2048#32
  let v1099 : BitVec 32 := Scalar.muli v603 c2048_i32_1319
  let c1024_i32_1320 : BitVec 32 := 1024#32
  let v1100 : BitVec 32 := Scalar.addi v1099 c1024_i32_1320
  let c0_i32_730 : BitVec 32 := 0#32
  let c1_i32_732 : BitVec 32 := 1#32
  let arg15 : BitVec 32 := Scf.iv c0_i32_730 c1_i32_732 k0_t12
  let c256_i32_1321 : BitVec 32 := 256#32
  let v1101 : BitVec 32 := Scalar.muli arg15 c256_i32_1321
  let v1102 : BitVec 32 := Scalar.addi v1100 v1101
  let c0_i32_1322 : BitVec 32 := 0#32
  ![v1102.toNat, 0]
def k0_off24 (k0_t12 : Fin k0_t12_loop.trips) : Fin 4 → Nat :=
  let c1_1330 : Index := 1#32
  let c0_1331 : Index := 0#32
  let c0_i32_730 : BitVec 32 := 0#32
  let c1_i32_732 : BitVec 32 := 1#32
  let arg15 : BitVec 32 := Scf.iv c0_i32_730 c1_i32_732 k0_t12
  let c256_i32_1329 : BitVec 32 := 256#32
  let v1109 : BitVec 32 := Scalar.muli arg15 c256_i32_1329
  let v1110 : Index := Scalar.indexCast v1109
  let c0_1332 : Index := 0#32
  ![1, 0, v1110.toNat, 0]
def k0_dev25 (d0 : Dev nD) : Nat :=
  let c0_i32_748 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_747 : BitVec 32 := 1#32
  let v613 : BitVec 32 := Scalar.muli v4 c1_i32_747
  let v614 : BitVec 32 := Scalar.addi c0_i32_748 v613
  v614.toNat
def k0_dev26 (d0 : Dev nD) : Nat :=
  let c0_i32_759 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_758 : BitVec 32 := 1#32
  let v617 : BitVec 32 := Scalar.muli v7 c1_i32_758
  let v618 : BitVec 32 := Scalar.addi c0_i32_759 v617
  v618.toNat
def k0_off25 (d0 : Dev nD) (c0_i32_765 : BitVec 32) (c0_i32_766 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_764 : BitVec 32 := 2048#32
  let v627 : BitVec 32 := Scalar.muli v2 c2048_i32_764
  let v628 : BitVec 32 := Scalar.addi v627 c0_i32_765
  let v629 : BitVec 32 := Scalar.addi v628 c0_i32_766
  let c0_i32_767 : BitVec 32 := 0#32
  ![v629.toNat, 0]
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Ideal.Prog.lean ====
/-
  The kernel body written as a short program over named pieces: the blocks and slots it moves, the semaphores it
  uses, and one piece per thing it does (cast a block of the weights, build a partial product, hand a credit on,
  send a slot, wait for a slot, finish an output block).
-/
module

public import proofs.«01_k».proof.Proof.Gen.KernelIdeal.Skeleton
public import proofs.«01_k».proof.Proof.Gen.KernelIdeal.Points
public import Idealize.ShloMosaic.Lib.Pipeline.Kit

@[expose] public section

set_option maxRecDepth 65536

noncomputable section

namespace Cert.KernelIdeal.Rs

open Idealize.ShloMosaic Idealize.ShloMosaic.TcCoe Idealize.SL.Sem
open Cert.KernelIdeal.Gen

variable {F : FTy → Type} [FloatOps F]

/-- A program of one TensorCore of the kernel. -/
abbrev Pr (F : FTy → Type) (α : Type) := Prog (TpuEff nD τ sig (Elt F) Λ₀ .tc) α

/-- The device's block of `x`, of `w`, and of the result. -/
abbrev xA : Memref sig .tc .hbm S8192x2048 .f32 := Memref.whole main_arg0
abbrev wA : Memref sig .tc .hbm S2048x4096 .f32 := Memref.whole main_arg1
abbrev oA : Memref sig .tc .hbm S2048x4096 .f32 := Memref.whole main_v1
/-- The cast weights, the row block of `x` at hand, and the two staging slots. -/
abbrev wM : Memref sig .tc .vmem S2048x4096 .bf16 := Memref.whole cc0_scratch2
abbrev xM : Memref sig .tc .vmem S256x2048 .f32 := Memref.whole cc0_scratch3
abbrev sM : Memref sig .tc .vmem S2x256x2048 .f32 := Memref.whole cc0_scratch4

/-- The communication buffer of direction `di`. -/
def comm (di : Fin 2) : Memref sig .tc .vmem S2x2x1024x2048 .bf16 :=
  match di with
  | 0 => Memref.whole cc0_scratch0
  | 1 => Memref.whole cc0_scratch1

theorem comm_isWhole : ∀ di : Fin 2, (comm di).IsWhole
  | 0 => Memref.isWhole_whole _
  | 1 => Memref.isWhole_whole _

/-! ## Semaphores -/

theorem inb4 : ∀ i : Fin 4, ∀ a, (![i.val] : Fin 1 → Nat) a + S1.size a ≤ S4.size a := by decide
theorem inb2 : ∀ i : Fin 2, ∀ a, (![i.val] : Fin 1 → Nat) a + S1.size a ≤ S2.size a := by decide

/-- Entry `2 * p + q` of an array of four. -/
def ix4 (p q : Fin 2) : Fin 4 := ⟨2 * p.val + q.val, by omega⟩

/-- The runtime's barrier semaphore. -/
abbrev barS : Sem sig := (SemArray.scalar (sig.barrier 0 rfl) : Sems sig S_).sem
/-- The credit semaphore of direction `di` and lane `lane`. -/
abbrev credS (di lane : Fin 2) : Sem sig :=
  ((cc0_scratch9.slice (Rect.unit (s := S4) ![(ix4 di lane).val] S1.size (inb4 _)) : Sems sig S1).squeeze S_ squeezes_S1_S_).sem
/-- The send and the receive semaphores of a direction. -/
def sendA (di : Fin 2) : DmaSems sig S4 := match di with | 0 => cc0_scratch5 | 1 => cc0_scratch7
def recvA (di : Fin 2) : DmaSems sig S4 := match di with | 0 => cc0_scratch6 | 1 => cc0_scratch8
/-- The semaphore on which the send from slot `s` of a lane completes, and that on which an arrival into it does. -/
abbrev sendS (di lane s : Fin 2) : DmaSem sig :=
  (((sendA di).slice (Rect.unit (s := S4) ![(ix4 lane s).val] S1.size (inb4 _)) : DmaSems sig S1).squeeze S_ squeezes_S1_S_).sem
abbrev recvS (di lane s : Fin 2) : DmaSem sig :=
  (((recvA di).slice (Rect.unit (s := S4) ![(ix4 lane s).val] S1.size (inb4 _)) : DmaSems sig S1).squeeze S_ squeezes_S1_S_).sem
/-- The semaphores of the copies of `x` and of those through staging slot `s`. -/
abbrev copyS : DmaSem sig := (cc0_scratch10 : DmaSems sig S_).sem
abbrev outS (s : Fin 2) : DmaSem sig :=
  ((cc0_scratch11.slice (Rect.unit (s := S2) ![s.val] S1.size (inb2 s)) : DmaSems sig S1).squeeze S_ squeezes_S1_S_).sem

/-! ## Blocks -/

theorem inbSlot : ∀ l s : Fin 2, ∀ a, (![l.val, s.val, 0, 0] : Fin 4 → Nat) a + S1x1x1024x2048.size a ≤ S2x2x1024x2048.size a := by decide
theorem inbRows : ∀ (l s : Fin 2) (b : Fin 4), ∀ a, (![l.val, s.val, 256 * b.val, 0] : Fin 4 → Nat) a + S1x1x256x2048.size a ≤ S2x2x1024x2048.size a := by decide
theorem wordsSlot : ∀ l s : Fin 2, (Rect.unit (s := S2x2x1024x2048) ![l.val, s.val, 0, 0] S1x1x1024x2048.size (inbSlot l s)).WholeWords (EltTy.packing .bf16)
  | 0, 0 => wordsbf16_S2x2x1024x2048_S1x1x1024x2048_0_0_0_0
  | 0, 1 => wordsbf16_S2x2x1024x2048_S1x1x1024x2048_0_1_0_0
  | 1, 0 => wordsbf16_S2x2x1024x2048_S1x1x1024x2048_1_0_0_0
  | 1, 1 => wordsbf16_S2x2x1024x2048_S1x1x1024x2048_1_1_0_0
theorem inbStage : ∀ s : Fin 2, ∀ a, (![s.val, 0, 0] : Fin 3 → Nat) a + S1x256x2048.size a ≤ S2x256x2048.size a := by decide
theorem inbBlk : ∀ (h : Fin 2) (b : Fin 8), ∀ a, (![256 * b.val, 2048 * h.val] : Fin 2 → Nat) a + S256x2048.size a ≤ S2048x4096.size a := by decide
theorem inbHalf : ∀ h : Fin 2, ∀ a, (![0, 2048 * h.val] : Fin 2 → Nat) a + S2048x2048.size a ≤ S2048x4096.size a := by decide
theorem packedBlk : ∀ (h : Fin 2) (b : Fin 8), (Rect.unit (s := S2048x4096) ![256 * b.val, 2048 * h.val] S256x2048.size (inbBlk h b)).PackedRows (EltTy.packing .bf16)
  | 0, 0 => packedbf16_S2048x4096_S256x2048_0_0
  | 0, 1 => packedbf16_S2048x4096_S256x2048_256_0
  | 0, 2 => packedbf16_S2048x4096_S256x2048_512_0
  | 0, 3 => packedbf16_S2048x4096_S256x2048_768_0
  | 0, 4 => packedbf16_S2048x4096_S256x2048_1024_0
  | 0, 5 => packedbf16_S2048x4096_S256x2048_1280_0
  | 0, 6 => packedbf16_S2048x4096_S256x2048_1536_0
  | 0, 7 => packedbf16_S2048x4096_S256x2048_1792_0
  | 1, 0 => packedbf16_S2048x4096_S256x2048_0_2048
  | 1, 1 => packedbf16_S2048x4096_S256x2048_256_2048
  | 1, 2 => packedbf16_S2048x4096_S256x2048_512_2048
  | 1, 3 => packedbf16_S2048x4096_S256x2048_768_2048
  | 1, 4 => packedbf16_S2048x4096_S256x2048_1024_2048
  | 1, 5 => packedbf16_S2048x4096_S256x2048_1280_2048
  | 1, 6 => packedbf16_S2048x4096_S256x2048_1536_2048
  | 1, 7 => packedbf16_S2048x4096_S256x2048_1792_2048

/-- The rectangle of slot `s` of lane `l`, and of its row block `b`. -/
abbrev rSlot (l s : Fin 2) : Rect S2x2x1024x2048 := Rect.unit (s := S2x2x1024x2048) ![l.val, s.val, 0, 0] S1x1x1024x2048.size (inbSlot l s)
abbrev rRows (l s : Fin 2) (b : Fin 4) : Rect S2x2x1024x2048 := Rect.unit (s := S2x2x1024x2048) ![l.val, s.val, 256 * b.val, 0] S1x1x256x2048.size (inbRows l s b)
/-- The rectangle of staging slot `s`; of row block `b` of column half `h`; of column half `h`; of the whole row block. -/
abbrev rStage (s : Fin 2) : Rect S2x256x2048 := Rect.unit (s := S2x256x2048) ![s.val, 0, 0] S1x256x2048.size (inbStage s)
abbrev rBlk (h : Fin 2) (b : Fin 8) : Rect S2048x4096 := Rect.unit (s := S2048x4096) ![256 * b.val, 2048 * h.val] S256x2048.size (inbBlk h b)
abbrev rHalf (h : Fin 2) : Rect S2048x4096 := Rect.unit (s := S2048x4096) ![0, 2048 * h.val] S2048x2048.size (inbHalf h)
abbrev rX : Rect S256x2048 := Rect.unit (s := S256x2048) ![0, 0] S256x2048.size inb_S256x2048_S256x2048_0_0

/-- Slot `s` of lane `l` of direction `di`'s buffer. -/
abbrev slotM (di l s : Fin 2) : Memref sig .tc .vmem S1024x2048 .bf16 :=
  ((comm di).slice (rSlot l s) (fun _ => rfl)).squeeze S1024x2048 squeezes_S1x1x1024x2048_S1024x2048
/-- Staging slot `s`. -/
abbrev stageM (s : Fin 2) : Memref sig .tc .vmem S256x2048 .f32 :=
  (sM.slice (rStage s) (fun _ => rfl)).squeeze S256x2048 squeezes_S1x256x2048_S256x2048
/-- Row block `b` of column half `h` of `w`, and of the result. -/
abbrev wBlk (h : Fin 2) (b : Fin 8) : Memref sig .tc .hbm S256x2048 .f32 := wA.slice (rBlk h b) (fun _ => rfl)
abbrev oBlk (h : Fin 2) (b : Fin 8) : Memref sig .tc .hbm S256x2048 .f32 := oA.slice (rBlk h b) (fun _ => rfl)

/-- Offsets of a row block of `x` that lies inside it. -/
structure XOff where
  off : Fin 2 → Nat
  inb : ∀ a, off a + S256x2048.size a ≤ S8192x2048.size a
/-- The row block of `x` at the offsets `o`. -/
abbrev xBlk (o : XOff) : Memref sig .tc .hbm S256x2048 .f32 :=
  xA.slice (Rect.unit (s := S8192x2048) o.off S256x2048.size o.inb) (fun _ => rfl)

/-- Offsets of a row block of a communication buffer that lies inside it and fills whole words. -/
structure COff where
  off : Fin 4 → Nat
  inb : ∀ a, off a + S1x1x256x2048.size a ≤ S2x2x1024x2048.size a
  packed : (Rect.unit (s := S2x2x1024x2048) off S1x1x256x2048.size inb).PackedRows (EltTy.packing .bf16)
abbrev COff.rect (o : COff) : Rect S2x2x1024x2048 := Rect.unit (s := S2x2x1024x2048) o.off S1x1x256x2048.size o.inb

/-! ## The pieces -/

/-- Start the copy of block `b` of half `h` of `w` into staging slot `s`. -/
def wStart (h : Fin 2) (b : Fin 8) (s : Fin 2) : Pr F PUnit :=
  Prog.lift (.enqueueDma (wBlk h b) (.here (stageM s)) (.dma (outS s)) (View.wordExact_bits rfl) ((View.wordExact_bits rfl).reshape _ _) ⟨Or.inl rfl, trivial⟩)

/-- Wait for that copy, cast the block and store it among the cast weights. -/
def wFinish (h : Fin 2) (b : Fin 8) (s : Fin 2) : Pr F PUnit := do
  Prog.lift (.waitDma2 (outS s) (wBlk h b) (stageM s) (View.wordExact_bits rfl) ((View.wordExact_bits rfl).reshape _ _))
  let v : Vec F S1x256x2048 .f32 ← Prog.lift (.load sM (rStage s).toLoadRect (View.loadsAt_vmem h_S1x256x2048))
  let _ : Vec F S256x2048 .bf16 ← Prog.lift (.load wM (rBlk h b).toLoadRect (View.loadsAt_vmem h_S256x2048))
  Prog.lift (.store wM (rBlk h b) (k0_pay1 v) Finset.univ (View.stores_vmem h_S256x2048 ((Memref.isWhole_whole _).storeExact_slice rfl _ (packedBlk h b)) (fun _ => rfl)) (.inl rfl))

/-- Cast half `h` of the weights, the copies running one block ahead. -/
def wCast (h : Fin 2) : Pr F PUnit := do
  wStart h 0 0
  wStart h 1 1; wFinish h 0 0
  wStart h 2 0; wFinish h 1 1
  wStart h 3 1; wFinish h 2 0
  wStart h 4 0; wFinish h 3 1
  wStart h 5 1; wFinish h 4 0
  wStart h 6 0; wFinish h 5 1
  wStart h 7 1; wFinish h 6 0
  wFinish h 7 1

/-- Fetch the row block of `x` at `o`, and read it and half `h` of the cast weights. -/
def xFetch (o : XOff) (h : Fin 2) : Pr F (Vec F S256x2048 .f32 × Vec F S2048x2048 .bf16) := do
  Prog.lift (.enqueueDma (xBlk o) (.here xM) (.dma copyS) (View.wordExact_bits rfl) (Memref.isWhole_whole _).wordExact ⟨Or.inl rfl, trivial⟩)
  Prog.lift (.waitDma2 copyS (xBlk o) xM (View.wordExact_bits rfl) (Memref.isWhole_whole _).wordExact)
  let x : Vec F S256x2048 .f32 ← Prog.lift (.load xM rX.toLoadRect (View.loadsAt_vmem h_S256x2048))
  let w : Vec F S2048x2048 .bf16 ← Prog.lift (.load wM (rHalf h).toLoadRect (View.loadsAt_vmem h_S2048x2048))
  pure (x, w)

/-- One block of the first partial product of a direction. -/
def bFirst (di : Fin 2) (o : XOff) (p : COff) : Pr F Unit := do
  let (x, w) ← xFetch o di
  let _ : Vec F S1x1x256x2048 .bf16 ← Prog.lift (.load (comm di) p.rect.toLoadRect (View.loadsAt_vmem h_S1x1x256x2048))
  Prog.lift (.store (comm di) p.rect (k0_pay9 x w) Finset.univ (View.stores_vmem h_S1x1x256x2048 ((comm_isWhole di).storeExact_slice rfl _ p.packed) (fun _ => rfl)) (.inl rfl))
  pure ⟨⟩

/-- One block of a later partial product: it adds to what arrived. -/
def bNext (di : Fin 2) (o : XOff) (p : COff) : Pr F Unit := do
  let (x, w) ← xFetch o di
  let v : Vec F S1x1x256x2048 .bf16 ← Prog.lift (.load (comm di) p.rect.toLoadRect (View.loadsAt_vmem h_S1x1x256x2048))
  let _ : Vec F S1x1x256x2048 .bf16 ← Prog.lift (.load (comm di) p.rect.toLoadRect (View.loadsAt_vmem h_S1x1x256x2048))
  Prog.lift (.store (comm di) p.rect (k0_pay21 x w v) Finset.univ (View.stores_vmem h_S1x1x256x2048 ((comm_isWhole di).storeExact_slice rfl _ p.packed) (fun _ => rfl)) (.inl rfl))
  pure ⟨⟩

/-- The four trips of every build loop. -/
abbrev T4 := Fin k0_t1_loop.trips

/-- The build loops of a direction. -/
def buildFirst (di : Fin 2) (o : T4 → XOff) (p : T4 → COff) : Pr F Unit :=
  Scf.Loop.for k0_t1_loop k0_t1_ok ⟨⟩ (fun t _ => bFirst di (o t) (p t))
def buildNext (di : Fin 2) (o : T4 → XOff) (p : T4 → COff) : Pr F Unit :=
  Scf.Loop.for k0_t1_loop k0_t1_ok ⟨⟩ (fun t _ => bNext di (o t) (p t))

/-- Hand the upstream device `u` a credit, and take one's own. -/
def creditGive (di l : Fin 2) (u : Dev nD) : Pr F PUnit := semSignalWord u (credS di l) 1#32
def creditTake (di l : Fin 2) : Pr F PUnit := semWaitWord (credS di l) 1#32

/-- Send slot `s` into slot `r` of the downstream device `dn`. -/
def sendOff (di l s r : Fin 2) (dn : Dev nD) : Pr F PUnit :=
  Prog.lift (.enqueueDma (slotM di l s) (.remote (Dev.tc dn) (slotM di l r) (.dma (sendS di l s))) (.dma (recvS di l r))
    (((comm_isWhole di).wordExact_slice rfl _ (wordsSlot l s)).reshape _ _) (((comm_isWhole di).wordExact_slice rfl _ (wordsSlot l r)).reshape _ _) ⟨⟨rfl, Or.inl rfl⟩, trivial⟩)
/-- Wait for the arrival into slot `r` of what left slot `s`. -/
def recvWait (di l s r : Fin 2) : Pr F PUnit :=
  Prog.lift (.waitDma2 (recvS di l r) (slotM di l s) (slotM di l r)
    (((comm_isWhole di).wordExact_slice rfl _ (wordsSlot l s)).reshape _ _) (((comm_isWhole di).wordExact_slice rfl _ (wordsSlot l r)).reshape _ _))
/-- Wait until slot `s` has been read by its send into slot `r`. -/
def sendWait (di l s r : Fin 2) : Pr F PUnit :=
  Prog.lift (.waitDma2 (sendS di l s) (slotM di l r) (slotM di l s)
    (((comm_isWhole di).wordExact_slice rfl _ (wordsSlot l r)).reshape _ _) (((comm_isWhole di).wordExact_slice rfl _ (wordsSlot l s)).reshape _ _))

/-- Wait until block `b` of half `h` of the result has left staging slot `s`. -/
def outWait (h : Fin 2) (b : Fin 8) (s : Fin 2) : Pr F PUnit :=
  Prog.lift (.waitDma2 (outS s) (stageM s) (oBlk h b) ((View.wordExact_bits rfl).reshape _ _) (View.wordExact_bits rfl))

/-- Add what arrived to the device's own product, put it in staging slot `s` and send it to block `b` of half `h`. -/
def outPut (di l : Fin 2) (q : Fin 4) (s : Fin 2) (b : Fin 8) (x : Vec F S256x2048 .f32) (w : Vec F S2048x2048 .bf16) : Pr F PUnit := do
  let v : Vec F S1x1x256x2048 .bf16 ← Prog.lift (.load (comm di) (rRows l 1 q).toLoadRect (View.loadsAt_vmem h_S1x1x256x2048))
  let _ : Vec F S1x256x2048 .f32 ← Prog.lift (.load sM (rStage s).toLoadRect (View.loadsAt_vmem h_S1x256x2048))
  Prog.lift (.store sM (rStage s) (k0_pay30 (k0_pay29 x w) v) Finset.univ (View.stores_vmem_bits_univ h_S1x256x2048 rfl) (.inl rfl))
  Prog.lift (.enqueueDma (stageM s) (.here (oBlk di b)) (.dma (outS s)) ((View.wordExact_bits rfl).reshape _ _) (View.wordExact_bits rfl) ⟨Or.inl rfl, trivial⟩)

/-- Everything the kernel reads off its device number: the neighbours and the row blocks. -/
structure Places where
  left : Dev nD
  right : Dev nD
  up : Fin 3 → Fin 2 → Fin 2 → Dev nD
  dn : Fin 3 → Fin 2 → Fin 2 → Dev nD
  row : Fin 3 → Fin 2 → Fin 2 → T4 → XOff
  slot : Fin 3 → Fin 2 → Fin 2 → T4 → COff
  own : Fin 2 → Fin 4 → XOff

/-- The barrier. -/
def meet (P : Places) : Pr F PUnit := do
  semSignalWord P.left barS 1#32
  semSignalWord P.right barS 1#32
  semWaitWord barS 2#32

/-- A later hop of lane `l` and direction `di`: slot `s` holds what arrived and is built upon, slot `r` is the other. -/
def hop (P : Places) (h : Fin 3) (l di s r : Fin 2) : Pr F PUnit := do
  recvWait di l r s
  buildNext di (P.row h l di) (P.slot h l di)
  sendWait di l r s
  creditGive di l (P.up h l di)
  creditTake di l
  sendOff di l s r (P.dn h l di)

/-- The first hop. -/
def hop0 (P : Places) (l di : Fin 2) : Pr F PUnit := do
  buildFirst di (P.row 0 l di) (P.slot 0 l di)
  creditGive di l (P.up 0 l di)
  creditTake di l
  sendOff di l 0 1 (P.dn 0 l di)

/-- The first block of the last phase of a lane and direction, at the start of the phase. -/
def finA (P : Places) (l di : Fin 2) (q : Fin 4) (s : Fin 2) (b : Fin 8) : Pr F PUnit := do
  let (x, w) ← xFetch (P.own l q) di
  recvWait di l 0 1
  outPut di l q s b x w
/-- A block of the last phase whose staging slot nothing has used. -/
def finB (P : Places) (l di : Fin 2) (q : Fin 4) (s : Fin 2) (b : Fin 8) : Pr F PUnit := do
  let (x, w) ← xFetch (P.own l q) di
  outPut di l q s b x w
/-- A block whose staging slot still sends block `b'` of half `h'`. -/
def finC (P : Places) (l di : Fin 2) (q : Fin 4) (s : Fin 2) (b : Fin 8) (h' : Fin 2) (b' : Fin 8) : Pr F PUnit := do
  let (x, w) ← xFetch (P.own l q) di
  outWait h' b' s
  outPut di l q s b x w
/-- The same at the start of a lane and direction. -/
def finD (P : Places) (l di : Fin 2) (q : Fin 4) (s : Fin 2) (b : Fin 8) (h' : Fin 2) (b' : Fin 8) : Pr F PUnit := do
  let (x, w) ← xFetch (P.own l q) di
  recvWait di l 0 1
  outWait h' b' s
  outPut di l q s b x w

/-- The last phase: the sixteen blocks of the result. -/
def finish (P : Places) : Pr F PUnit := do
  finA P 0 0 0 0 0
  finB P 0 0 1 1 1
  finC P 0 0 2 0 2 0 0
  finC P 0 0 3 1 3 0 1
  finD P 0 1 0 0 0 0 2
  finC P 0 1 1 1 1 0 3
  finC P 0 1 2 0 2 1 0
  finC P 0 1 3 1 3 1 1
  finD P 1 0 0 0 4 1 2
  finC P 1 0 1 1 5 1 3
  finC P 1 0 2 0 6 0 4
  finC P 1 0 3 1 7 0 5
  finD P 1 1 0 0 4 0 6
  finC P 1 1 1 1 5 0 7
  finC P 1 1 2 0 6 1 4
  finC P 1 1 3 1 7 1 5
  outWait 1 6 0
  outWait 1 7 1

/-- The last waits. -/
def drain : Pr F PUnit := do
  sendWait 0 0 0 1
  sendWait 1 0 0 1
  sendWait 0 1 0 1
  sendWait 1 1 0 1

/-- The whole body, given the places. -/
def prog (P : Places) : Pr F PUnit := do
  meet P
  wCast 0
  hop0 P 0 0
  wCast 1
  hop0 P 0 1
  hop0 P 1 0
  hop0 P 1 1
  hop P 1 0 0 1 0
  hop P 1 0 1 1 0
  hop P 1 1 0 1 0
  hop P 1 1 1 1 0
  hop P 2 0 0 0 1
  hop P 2 0 1 0 1
  hop P 2 1 0 0 1
  hop P 2 1 1 0 1
  finish P
  drain

end Cert.KernelIdeal.Rs

end
-- ==== Proof.Ideal.Flat.lean ====
/-
  The printed kernel body is the program of `Prog.lean` at the places it computes from its device number.
-/
module

public import proofs.«01_k».proof.Proof.Ideal.Prog

@[expose] public section

set_option maxRecDepth 65536

noncomputable section

namespace Cert.KernelIdeal.Rs

open Idealize.ShloMosaic Idealize.ShloMosaic.TcCoe Idealize.SL.Sem
open Cert.KernelIdeal.Gen

variable {F : FTy → Type} [FloatOps F]

/-- The places as the printed body computes them on device `d`. -/
def places (d : Dev nD) : Places where
  left := ⟨k0_dev1 d, k0_dev1_lt d⟩
  right := ⟨k0_dev2 d, k0_dev2_lt d⟩
  up h l di := match h, l, di with
    | 0, 0, 0 => ⟨k0_dev3 d, k0_dev3_lt d⟩
    | 0, 0, 1 => ⟨k0_dev5 d, k0_dev5_lt d⟩
    | 0, 1, 0 => ⟨k0_dev7 d, k0_dev7_lt d⟩
    | 0, 1, 1 => ⟨k0_dev9 d, k0_dev9_lt d⟩
    | 1, 0, 0 => ⟨k0_dev11 d, k0_dev11_lt d⟩
    | 1, 0, 1 => ⟨k0_dev13 d, k0_dev13_lt d⟩
    | 1, 1, 0 => ⟨k0_dev15 d, k0_dev15_lt d⟩
    | 1, 1, 1 => ⟨k0_dev17 d, k0_dev17_lt d⟩
    | 2, 0, 0 => ⟨k0_dev19 d, k0_dev19_lt d⟩
    | 2, 0, 1 => ⟨k0_dev21 d, k0_dev21_lt d⟩
    | 2, 1, 0 => ⟨k0_dev23 d, k0_dev23_lt d⟩
    | 2, 1, 1 => ⟨k0_dev25 d, k0_dev25_lt d⟩
  dn h l di := match h, l, di with
    | 0, 0, 0 => ⟨k0_dev4 d, k0_dev4_lt d⟩
    | 0, 0, 1 => ⟨k0_dev6 d, k0_dev6_lt d⟩
    | 0, 1, 0 => ⟨k0_dev8 d, k0_dev8_lt d⟩
    | 0, 1, 1 => ⟨k0_dev10 d, k0_dev10_lt d⟩
    | 1, 0, 0 => ⟨k0_dev12 d, k0_dev12_lt d⟩
    | 1, 0, 1 => ⟨k0_dev14 d, k0_dev14_lt d⟩
    | 1, 1, 0 => ⟨k0_dev16 d, k0_dev16_lt d⟩
    | 1, 1, 1 => ⟨k0_dev18 d, k0_dev18_lt d⟩
    | 2, 0, 0 => ⟨k0_dev20 d, k0_dev20_lt d⟩
    | 2, 0, 1 => ⟨k0_dev22 d, k0_dev22_lt d⟩
    | 2, 1, 0 => ⟨k0_dev24 d, k0_dev24_lt d⟩
    | 2, 1, 1 => ⟨k0_dev26 d, k0_dev26_lt d⟩
  row h l di := match h, l, di with
    | 0, 0, 0 => fun t => ⟨k0_off1 d t, k0_off1_inb d t⟩
    | 0, 0, 1 => fun t => ⟨k0_off3 d t, k0_off3_inb d t⟩
    | 0, 1, 0 => fun t => ⟨k0_off5 d t, k0_off5_inb d t⟩
    | 0, 1, 1 => fun t => ⟨k0_off7 d t, k0_off7_inb d t⟩
    | 1, 0, 0 => fun t => ⟨k0_off9 d t, k0_off9_inb d t⟩
    | 1, 0, 1 => fun t => ⟨k0_off11 d t, k0_off11_inb d t⟩
    | 1, 1, 0 => fun t => ⟨k0_off13 d t, k0_off13_inb d t⟩
    | 1, 1, 1 => fun t => ⟨k0_off15 d t, k0_off15_inb d t⟩
    | 2, 0, 0 => fun t => ⟨k0_off17 d t, k0_off17_inb d t⟩
    | 2, 0, 1 => fun t => ⟨k0_off19 d t, k0_off19_inb d t⟩
    | 2, 1, 0 => fun t => ⟨k0_off21 d t, k0_off21_inb d t⟩
    | 2, 1, 1 => fun t => ⟨k0_off23 d t, k0_off23_inb d t⟩
  slot h l di := match h, l, di with
    | 0, 0, 0 => fun t => ⟨k0_off2 t, k0_off2_inb t, k0_off2_packedbf16 t⟩
    | 0, 0, 1 => fun t => ⟨k0_off4 t, k0_off4_inb t, k0_off4_packedbf16 t⟩
    | 0, 1, 0 => fun t => ⟨k0_off6 t, k0_off6_inb t, k0_off6_packedbf16 t⟩
    | 0, 1, 1 => fun t => ⟨k0_off8 t, k0_off8_inb t, k0_off8_packedbf16 t⟩
    | 1, 0, 0 => fun t => ⟨k0_off10 t, k0_off10_inb t, k0_off10_packedbf16 t⟩
    | 1, 0, 1 => fun t => ⟨k0_off12 t, k0_off12_inb t, k0_off12_packedbf16 t⟩
    | 1, 1, 0 => fun t => ⟨k0_off14 t, k0_off14_inb t, k0_off14_packedbf16 t⟩
    | 1, 1, 1 => fun t => ⟨k0_off16 t, k0_off16_inb t, k0_off16_packedbf16 t⟩
    | 2, 0, 0 => fun t => ⟨k0_off18 t, k0_off18_inb t, k0_off18_packedbf16 t⟩
    | 2, 0, 1 => fun t => ⟨k0_off20 t, k0_off20_inb t, k0_off20_packedbf16 t⟩
    | 2, 1, 0 => fun t => ⟨k0_off22 t, k0_off22_inb t, k0_off22_packedbf16 t⟩
    | 2, 1, 1 => fun t => ⟨k0_off24 t, k0_off24_inb t, k0_off24_packedbf16 t⟩
  own l q := ⟨k0_off25 d (BitVec.ofNat 32 (1024 * l.val)) (BitVec.ofNat 32 (256 * q.val)), k0_off25_inb d l q⟩

/-- The printed body is that program. -/
theorem body_flat (t : Fin cfg0.N) : bodyAt0 (F := F) t = (Prog.lift .deviceId >>= fun d => prog (places d)) := by
  unfold bodyAt0
  rw [cc0_body_eq_skeleton]
  unfold cc0_body_skel prog
  rw [k0_part6_eq_skeleton, k0_part12_eq_skeleton, k0_part13_eq_skeleton, k0_part15_eq_skeleton, k0_part16_eq_skeleton,
    k0_part18_eq_skeleton, k0_part19_eq_skeleton, k0_part21_eq_skeleton, k0_part22_eq_skeleton, k0_part24_eq_skeleton, k0_part25_eq_skeleton]
  unfold k0_part6_skel k0_part12_skel k0_part13_skel k0_part15_skel k0_part16_skel k0_part18_skel k0_part19_skel k0_part21_skel
    k0_part22_skel k0_part24_skel k0_part25_skel hop hop0
  simp only [bind_assoc, pure_bind]
  rfl

end Cert.KernelIdeal.Rs

end
-- ==== Proof.Ideal.Places.lean ====
/-
  The places in closed form: the ring neighbours of a device, the row blocks of `x` it reads and the slots it
  builds in.
-/
module

public import proofs.«01_k».proof.Proof.Ideal.Flat

@[expose] public section

set_option maxRecDepth 65536

noncomputable section

namespace Cert.KernelIdeal.Rs

open Idealize.ShloMosaic Idealize.ShloMosaic.TcCoe Idealize.SL.Sem
open Cert.KernelIdeal.Gen

/-- The next and the previous device of the ring. -/
def nxt (d : Dev nD) : Dev nD := ⟨(d.val + 1) % 4, Nat.mod_lt _ (by decide)⟩
def prv (d : Dev nD) : Dev nD := ⟨(d.val + 3) % 4, Nat.mod_lt _ (by decide)⟩

/-- Whom a direction sends to, and whom it receives from. -/
def dnD (di : Fin 2) (d : Dev nD) : Dev nD := match di with | 0 => nxt d | 1 => prv d
def upD (di : Fin 2) (d : Dev nD) : Dev nD := match di with | 0 => prv d | 1 => nxt d

theorem up_dn : ∀ (di : Fin 2) (d : Dev nD), upD di (dnD di d) = d := by decide
theorem dn_up : ∀ (di : Fin 2) (d : Dev nD), dnD di (upD di d) = d := by decide
theorem nxt_ne_prv : ∀ d : Dev nD, nxt d ≠ prv d := by decide
theorem prv_nxt : ∀ d : Dev nD, prv (nxt d) = d := by decide
theorem nxt_prv : ∀ d : Dev nD, nxt (prv d) = d := by decide

/-- The chunk of rows a device works on in hop `h` of a direction. -/
def chunk (h : Fin 3) (di : Fin 2) (d : Dev nD) : Nat := match di with | 0 => (d.val + (7 - h.val)) % 4 | 1 => (d.val + (1 + h.val)) % 4

theorem chunk_lt : ∀ (h : Fin 3) (di : Fin 2) (d : Dev nD), chunk h di d < 4 := by decide

/-- The slot hop `h` builds in, and the other one. -/
def sl (h : Fin 3) : Fin 2 := match h with | 0 => 0 | 1 => 1 | 2 => 0
def ot (h : Fin 3) : Fin 2 := match h with | 0 => 1 | 1 => 0 | 2 => 1

theorem trips4 : k0_t1_loop.trips = 4 := by decide +kernel

/-- A trip of a build loop as a block number. -/
def q4 (t : T4) : Fin 4 := ⟨t.val, Nat.lt_of_lt_of_eq t.2 trips4⟩

theorem ownInb (c : Nat) (hc : c < 4) (l : Fin 2) (q : Fin 4) : ∀ a, (![2048 * c + 1024 * l.val + 256 * q.val, 0] : Fin 2 → Nat) a + S256x2048.size a ≤ S8192x2048.size a := by
  intro a
  match a with
  | 0 => show 2048 * c + 1024 * l.val + 256 * q.val + 256 ≤ 8192; omega
  | 1 => show 0 + 2048 ≤ 2048; omega

/-- Row block `q` of lane `l` of chunk `c` of `x`. -/
def rowOff (c : Nat) (hc : c < 4) (l : Fin 2) (q : Fin 4) : XOff := ⟨![2048 * c + 1024 * l.val + 256 * q.val, 0], ownInb c hc l q⟩

theorem XOff.ext' {o o' : XOff} (h : o.off = o'.off) : o = o' := by cases o; cases o'; cases h; rfl
theorem COff.ext' {o o' : COff} (h : o.off = o'.off) : o = o' := by cases o; cases o'; cases h; rfl

theorem packed_of {off off' : Fin 4 → Nat} {inb inb'} (h : off = off')
    (hp : (Rect.unit (s := S2x2x1024x2048) off S1x1x256x2048.size inb).PackedRows (EltTy.packing .bf16)) :
    (Rect.unit (s := S2x2x1024x2048) off' S1x1x256x2048.size inb').PackedRows (EltTy.packing .bf16) := by
  cases h; exact hp

/-- A row block of a slot fills whole words. -/
theorem packedRows (l s : Fin 2) (t : T4) : (rRows l s (q4 t)).PackedRows (EltTy.packing .bf16) :=
  match l, s with
  | 0, 0 => packed_of (k0_off2_eq t) (k0_off2_packedbf16 t)
  | 0, 1 => packed_of (k0_off10_eq t) (k0_off10_packedbf16 t)
  | 1, 0 => packed_of (k0_off6_eq t) (k0_off6_packedbf16 t)
  | 1, 1 => packed_of (k0_off14_eq t) (k0_off14_packedbf16 t)

/-- Row block `t` of slot `s` of lane `l`. -/
def slotOff (l s : Fin 2) (t : T4) : COff := ⟨![l.val, s.val, 256 * (q4 t).val, 0], inbRows l s (q4 t), packedRows l s t⟩

/-- The places in closed form. -/
def std (d : Dev nD) : Places where
  left := prv d
  right := nxt d
  up _ _ di := upD di d
  dn _ _ di := dnD di d
  row h l di t := rowOff (chunk h di d) (chunk_lt h di d) l (q4 t)
  slot h l _ t := slotOff l (sl h) t
  own l q := rowOff d.val d.isLt l q

theorem add_off (a b c : Nat) : (![a + b + c, 0] : Fin 2 → Nat) = ![a + c + b, 0] := by rw [Nat.add_right_comm]

theorem own_off : ∀ (d : Dev nD) (l : Fin 2) (q : Fin 4), k0_off25 d (BitVec.ofNat 32 (1024 * l.val)) (BitVec.ofNat 32 (256 * q.val)) = ![2048 * d.val + 1024 * l.val + 256 * q.val, 0] := by
  decide +kernel

theorem row_eq (d : Dev nD) : ∀ (h : Fin 3) (l di : Fin 2) (t : T4), (places d).row h l di t = (std d).row h l di t
  | 0, 0, 0, t => XOff.ext' (k0_off1_eq d t)
  | 0, 0, 1, t => XOff.ext' (k0_off3_eq d t)
  | 0, 1, 0, t => XOff.ext' ((k0_off5_eq d t).trans (add_off _ _ _))
  | 0, 1, 1, t => XOff.ext' ((k0_off7_eq d t).trans (add_off _ _ _))
  | 1, 0, 0, t => XOff.ext' (k0_off9_eq d t)
  | 1, 0, 1, t => XOff.ext' (k0_off11_eq d t)
  | 1, 1, 0, t => XOff.ext' ((k0_off13_eq d t).trans (add_off _ _ _))
  | 1, 1, 1, t => XOff.ext' ((k0_off15_eq d t).trans (add_off _ _ _))
  | 2, 0, 0, t => XOff.ext' (k0_off17_eq d t)
  | 2, 0, 1, t => XOff.ext' (k0_off19_eq d t)
  | 2, 1, 0, t => XOff.ext' ((k0_off21_eq d t).trans (add_off _ _ _))
  | 2, 1, 1, t => XOff.ext' ((k0_off23_eq d t).trans (add_off _ _ _))

theorem slot_eq (d : Dev nD) : ∀ (h : Fin 3) (l di : Fin 2) (t : T4), (places d).slot h l di t = (std d).slot h l di t
  | 0, 0, 0, t => COff.ext' (k0_off2_eq t)
  | 0, 0, 1, t => COff.ext' (k0_off4_eq t)
  | 0, 1, 0, t => COff.ext' (k0_off6_eq t)
  | 0, 1, 1, t => COff.ext' (k0_off8_eq t)
  | 1, 0, 0, t => COff.ext' (k0_off10_eq t)
  | 1, 0, 1, t => COff.ext' (k0_off12_eq t)
  | 1, 1, 0, t => COff.ext' (k0_off14_eq t)
  | 1, 1, 1, t => COff.ext' (k0_off16_eq t)
  | 2, 0, 0, t => COff.ext' (k0_off18_eq t)
  | 2, 0, 1, t => COff.ext' (k0_off20_eq t)
  | 2, 1, 0, t => COff.ext' (k0_off22_eq t)
  | 2, 1, 1, t => COff.ext' (k0_off24_eq t)

theorem up_eq (d : Dev nD) : ∀ (h : Fin 3) (l di : Fin 2), (places d).up h l di = (std d).up h l di
  | 0, 0, 0 => Fin.ext (k0_dev3_eq d)
  | 0, 0, 1 => Fin.ext (k0_dev5_eq d)
  | 0, 1, 0 => Fin.ext (k0_dev7_eq d)
  | 0, 1, 1 => Fin.ext (k0_dev9_eq d)
  | 1, 0, 0 => Fin.ext (k0_dev11_eq d)
  | 1, 0, 1 => Fin.ext (k0_dev13_eq d)
  | 1, 1, 0 => Fin.ext (k0_dev15_eq d)
  | 1, 1, 1 => Fin.ext (k0_dev17_eq d)
  | 2, 0, 0 => Fin.ext (k0_dev19_eq d)
  | 2, 0, 1 => Fin.ext (k0_dev21_eq d)
  | 2, 1, 0 => Fin.ext (k0_dev23_eq d)
  | 2, 1, 1 => Fin.ext (k0_dev25_eq d)

theorem dn_eq (d : Dev nD) : ∀ (h : Fin 3) (l di : Fin 2), (places d).dn h l di = (std d).dn h l di
  | 0, 0, 0 => Fin.ext (k0_dev4_eq d)
  | 0, 0, 1 => Fin.ext (k0_dev6_eq d)
  | 0, 1, 0 => Fin.ext (k0_dev8_eq d)
  | 0, 1, 1 => Fin.ext (k0_dev10_eq d)
  | 1, 0, 0 => Fin.ext (k0_dev12_eq d)
  | 1, 0, 1 => Fin.ext (k0_dev14_eq d)
  | 1, 1, 0 => Fin.ext (k0_dev16_eq d)
  | 1, 1, 1 => Fin.ext (k0_dev18_eq d)
  | 2, 0, 0 => Fin.ext (k0_dev20_eq d)
  | 2, 0, 1 => Fin.ext (k0_dev22_eq d)
  | 2, 1, 0 => Fin.ext (k0_dev24_eq d)
  | 2, 1, 1 => Fin.ext (k0_dev26_eq d)

theorem Places.ext' {P P' : Places} (h1 : P.left = P'.left) (h2 : P.right = P'.right) (h3 : P.up = P'.up) (h4 : P.dn = P'.dn)
    (h5 : P.row = P'.row) (h6 : P.slot = P'.slot) (h7 : P.own = P'.own) : P = P' := by
  cases P; cases P'; cases h1; cases h2; cases h3; cases h4; cases h5; cases h6; cases h7; rfl

/-- The places the body computes are the closed ones. -/
theorem places_eq (d : Dev nD) : places d = std d :=
  Places.ext' (Fin.ext (k0_dev1_eq d)) (Fin.ext (k0_dev2_eq d)) (funext fun h => funext fun l => funext fun di => up_eq d h l di)
    (funext fun h => funext fun l => funext fun di => dn_eq d h l di)
    (funext fun h => funext fun l => funext fun di => funext fun t => row_eq d h l di t)
    (funext fun h => funext fun l => funext fun di => funext fun t => slot_eq d h l di t)
    (funext fun l => funext fun q => XOff.ext' (own_off d l q))

end Cert.KernelIdeal.Rs

end
-- ==== Proof.Ideal.Views.lean ====
/-
  The resource algebra, ownership of a part of a buffer at given contents, and the rules for loads, stores and
  local copies in those terms.
-/
module

public import proofs.«01_k».proof.Proof.Ideal.Places
public import proofs.«01_k».proof.Proof.Gen.KernelIdeal.Launch
public import Idealize.ShloMosaic.Lib.Pipeline.Launch
public import Idealize.ShloMosaic.Lib.Tactic
public import Idealize.ShloMosaic.Lib.Transfers
public import Idealize.ShloMosaic.Lib.Memref

@[expose] public section

set_option maxRecDepth 65536

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

/-- The rounds library's algebra for the kernel's cells (duty names `Bool`), and the user algebra. -/
abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig ℕ (Elt F) ℕ UU ℕ) := countersEmb

abbrev 𝒱₀ : Variants := Variants.none

/-- The weakest precondition of a program of device `c`'s TensorCore. -/
abbrev wpc (c : Dev nD) {α : Type} (p : Pr F α) (Q : α → sProp 𝕄) : sProp 𝕄 :=
  wp frame (wpE (defs₀ (F := F)) 𝒱₀ (c : Thread nD τ) none) Set.univ p Q

/-! ## Ownership of a part at given contents -/

section At
variable (c : Dev nD) {sp : Space} {s : Shape} {e : EltTy}

/-- Device `c` holds the elements `S` of the memref at share `q`, and they hold what `X` says there. -/
def At (m : Memref sig .tc sp s e) (q : PosShare TreeShare) (S : Finset s.Idx) (X : s.Idx → Elt F e) : sProp 𝕄 :=
  iprop(∃ f : m.view.ty.Contents (Elt F), ⌜∀ i ∈ S, m.view.read (Elt F) f i = X i⌝ ∗ (m.view.loc (c : Thread nD τ) ↦[m.view.setOn S]{q} f))

/-- Contents that agree on the part may be exchanged. -/
theorem at_congr {m : Memref sig .tc sp s e} {q : PosShare TreeShare} {S : Finset s.Idx} {X Y : s.Idx → Elt F e} (h : ∀ i ∈ S, X i = Y i) :
    At c m q S X ⊢ At c m q S Y := by
  unfold At
  iintro ⟨%f, %hf, H⟩
  iexists f
  isplitr; · ipureintro; exact fun i hi => (hf i hi).trans (h i hi)
  iexact H

theorem setOn_union (v : View sig .tc sp s e) (S T : Finset s.Idx) : v.setOn (S ∪ T) = v.setOn S ∪ v.setOn T := by
  unfold View.setOn; exact Finset.map_union _ _

theorem setOn_disjoint (v : View sig .tc sp s e) {S T : Finset s.Idx} (h : Disjoint S T) : Disjoint (v.setOn S) (v.setOn T) := by
  unfold View.setOn; exact (Finset.disjoint_map _).mpr h

/-- Two disjoint parts at the same contents are their union. -/
theorem at_union (m : Memref sig .tc sp s e) (q : PosShare TreeShare) {S T : Finset s.Idx} (h : Disjoint S T) (X : s.Idx → Elt F e) :
    (At c m q (S ∪ T) X : sProp 𝕄) ⊣⊢ iprop(At c m q S X ∗ At c m q T X) := by
  constructor
  · unfold At; rw [setOn_union]
    iintro ⟨%f, %hf, H⟩
    ihave H := (pointsTo_union (setOn_disjoint m.view h)).1 $$ H
    icases H with ⟨H1, H2⟩
    isplitl [H1]
    · iexists f; isplitr; · ipureintro; exact fun i hi => hf i (Finset.mem_union_left _ hi)
      iexact H1
    · iexists f; isplitr; · ipureintro; exact fun i hi => hf i (Finset.mem_union_right _ hi)
      iexact H2
  · unfold At; rw [setOn_union]
    iintro ⟨⟨%f, %hf, H1⟩, ⟨%g, %hg, H2⟩⟩
    iexists ((m.view.setOn T).piecewise g f)
    isplitr
    · ipureintro
      intro i hi
      by_cases hT : i ∈ T
      · rw [View.read_apply, Finset.piecewise_eq_of_mem _ _ _ (m.view.mem_setOn.mpr hT)]; exact hg i hT
      · rw [View.read_apply, Finset.piecewise_eq_of_notMem _ _ _ (fun h' => hT (m.view.mem_setOn.mp h'))]
        exact hf i ((Finset.mem_union.mp hi).resolve_right hT)
    · iapply (pointsTo_join (setOn_disjoint m.view h))
      isplitl [H1] <;> iassumption

/-- A part and the rest. -/
theorem at_sdiff (m : Memref sig .tc sp s e) (q : PosShare TreeShare) {S T : Finset s.Idx} (h : T ⊆ S) (X : s.Idx → Elt F e) :
    (At c m q S X : sProp 𝕄) ⊣⊢ iprop(At c m q T X ∗ At c m q (S \ T) X) := by
  have := at_union (F := F) c m q (Finset.disjoint_sdiff (s := T) (t := S)) X
  rwa [Finset.union_sdiff_of_subset h] at this

theorem at_empty (m : Memref sig .tc sp s e) (q : PosShare TreeShare) (X : s.Idx → Elt F e) (f : m.view.ty.Contents (Elt F)) :
    (iprop(emp) : sProp 𝕄) ⊢ At c m q ∅ X := by
  unfold At
  iintro -
  iexists f
  isplitr; · ipureintro; intro i hi; exact absurd hi (Finset.notMem_empty _)
  rw [show m.view.setOn ∅ = ∅ from by unfold View.setOn; exact Finset.map_empty _, pointsTo_empty]; iempintro

/-- Parts of a disjoint family, one by one: a list of parts whose sets are pairwise disjoint. -/
theorem at_two (m : Memref sig .tc sp s e) (q : PosShare TreeShare) (K : Fin 2 → Finset s.Idx) (S : Finset s.Idx)
    (hS : ∀ i, i ∈ S ↔ ∃ b, i ∈ K b) (hd : ∀ b b' i, i ∈ K b → i ∈ K b' → b = b') (X : s.Idx → Elt F e) :
    (At c m q S X : sProp 𝕄) ⊣⊢ iprop(At c m q (K 0) X ∗ At c m q (K 1) X) := by
  have e : S = K 0 ∪ K 1 := by
    ext i; rw [hS, Finset.mem_union]
    constructor
    · rintro ⟨b, hb⟩; match b with | 0 => exact .inl hb | 1 => exact .inr hb
    · rintro (h | h); exacts [⟨0, h⟩, ⟨1, h⟩]
  subst e
  exact at_union c m q (Finset.disjoint_left.mpr fun i h0 h1 => absurd (hd _ _ i h0 h1) (by decide)) X

theorem at_four (m : Memref sig .tc sp s e) (q : PosShare TreeShare) (K : Fin 4 → Finset s.Idx) (S : Finset s.Idx)
    (hS : ∀ i, i ∈ S ↔ ∃ b, i ∈ K b) (hd : ∀ b b' i, i ∈ K b → i ∈ K b' → b = b') (X : s.Idx → Elt F e) :
    (At c m q S X : sProp 𝕄) ⊣⊢ iprop(At c m q (K 0) X ∗ At c m q (K 1) X ∗ At c m q (K 2) X ∗ At c m q (K 3) X) := by
  have e : S = K 0 ∪ (K 1 ∪ (K 2 ∪ K 3)) := by
    ext i; rw [hS]; simp only [Finset.mem_union]
    constructor
    · rintro ⟨b, hb⟩; match b with | 0 => exact .inl hb | 1 => exact .inr (.inl hb) | 2 => exact .inr (.inr (.inl hb)) | 3 => exact .inr (.inr (.inr hb))
    · rintro (h | h | h | h); exacts [⟨0, h⟩, ⟨1, h⟩, ⟨2, h⟩, ⟨3, h⟩]
  subst e
  have d : ∀ b b', b ≠ b' → Disjoint (K b) (K b') := fun b b' hb => Finset.disjoint_left.mpr fun i h0 h1 => hb (hd _ _ i h0 h1)
  have d3 := d 2 3 (by decide)
  have d2 : Disjoint (K 1) (K 2 ∪ K 3) := Finset.disjoint_union_right.mpr ⟨d 1 2 (by decide), d 1 3 (by decide)⟩
  have d1 : Disjoint (K 0) (K 1 ∪ (K 2 ∪ K 3)) := Finset.disjoint_union_right.mpr ⟨d 0 1 (by decide), Finset.disjoint_union_right.mpr ⟨d 0 2 (by decide), d 0 3 (by decide)⟩⟩
  have e1 := at_union (F := F) c m q d1 X
  have e2 := at_union (F := F) c m q d2 X
  have e3 := at_union (F := F) c m q d3 X
  rw [BI.equiv_iff.mp ⟨e1.1, e1.2⟩, BI.equiv_iff.mp ⟨e2.1, e2.2⟩, BI.equiv_iff.mp ⟨e3.1, e3.2⟩]

/-- A share in two halves. -/
theorem at_halves (m : Memref sig .tc sp s e) (S : Finset s.Idx) (X : s.Idx → Elt F e) :
    (At c m fullShare S X : sProp 𝕄) ⊢ iprop(At c m fullShare.left S X ∗ At c m fullShare.right S X) := by
  unfold At
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2

end At

instance at_storable (c : Dev nD) {sp : Space} {s : Shape} {e : EltTy} (m : Memref sig .tc sp s e) (q : PosShare TreeShare) (S : Finset s.Idx) (X : s.Idx → Elt F e) :
    BI.Storable (upEmb : UEmb _ 𝕄) (At c m q S X) := by
  unfold At; infer_instance

/-! ## Parts and the views of rectangles -/

section Rects
variable (c : Dev nD) {sp : Space} {s s' : Shape} {e : EltTy}

/-- The part a rectangle covers, as the memref of that rectangle. -/
theorem at_slice (m : Memref sig .tc sp s e) (q : PosShare TreeShare) (r : Rect s) (hr : ∀ a, r.stride a = 1) (X : s.Idx → Elt F e) :
    (At c m q r.set X : sProp 𝕄) ⊢ owns (c : Thread nD τ) (m.slice r hr) q (fun j => X (r.emb j)) := by
  unfold At owns
  iintro ⟨%f, %hf, H⟩
  iexists f
  isplitr
  · ipureintro; funext j; exact hf _ (by rw [← Rect.map_emb_univ]; exact Finset.mem_map_of_mem _ (Finset.mem_univ _))
  · rw [show (m.slice r hr).view.set = m.view.setOn r.set from View.set_slice _ r]; iexact H

theorem slice_at (m : Memref sig .tc sp s e) (q : PosShare TreeShare) (r : Rect s) (hr : ∀ a, r.stride a = 1) (V : r.shape.Idx → Elt F e) (Y : s.Idx → Elt F e)
    (hY : ∀ j, Y (r.emb j) = V j) : (owns (c : Thread nD τ) (m.slice r hr) q V : sProp 𝕄) ⊢ At c m q r.set Y := by
  unfold At owns
  iintro ⟨%f, %hf, H⟩
  iexists f
  isplitr
  · ipureintro; intro i hi
    rw [← Rect.map_emb_univ] at hi
    obtain ⟨j, _, rfl⟩ := Finset.mem_map.mp hi
    rw [hY, ← hf]; rfl
  · rw [show m.view.setOn r.set = (m.slice r hr).view.set from (View.set_slice _ r).symm]; iexact H

/-- The same for a rectangle with its unit axes dropped. -/
theorem at_squeeze (m : Memref sig .tc sp s e) (q : PosShare TreeShare) (r : Rect s) (hr : ∀ a, r.stride a = 1) (hq : r.shape.Squeezes s') (X : s.Idx → Elt F e) :
    (At c m q r.set X : sProp 𝕄) ⊢ owns (c : Thread nD τ) ((m.slice r hr).squeeze s' hq) q (fun j => X (r.emb (Shape.reshapeEquiv hq.numel_eq j))) := by
  unfold At owns
  iintro ⟨%f, %hf, H⟩
  iexists f
  isplitr
  · ipureintro; funext j; exact hf _ (by rw [← Rect.map_emb_univ]; exact Finset.mem_map_of_mem _ (Finset.mem_univ _))
  · rw [show ((m.slice r hr).squeeze s' hq).view.set = m.view.setOn r.set from (View.set_reshape _ _).trans (View.set_slice _ r)]; iexact H

theorem squeeze_at (m : Memref sig .tc sp s e) (q : PosShare TreeShare) (r : Rect s) (hr : ∀ a, r.stride a = 1) (hq : r.shape.Squeezes s') (V : s'.Idx → Elt F e) (Y : s.Idx → Elt F e)
    (hY : ∀ j, Y (r.emb (Shape.reshapeEquiv hq.numel_eq j)) = V j) : (owns (c : Thread nD τ) ((m.slice r hr).squeeze s' hq) q V : sProp 𝕄) ⊢ At c m q r.set Y := by
  unfold At owns
  iintro ⟨%f, %hf, H⟩
  iexists f
  isplitr
  · ipureintro; intro i hi
    rw [← Rect.map_emb_univ] at hi
    obtain ⟨j, _, rfl⟩ := Finset.mem_map.mp hi
    obtain ⟨j', rfl⟩ := (Shape.reshapeEquiv hq.numel_eq).surjective j
    have h := congrFun hf j'
    rw [hY, ← h]; rfl
  · rw [show m.view.setOn r.set = ((m.slice r hr).squeeze s' hq).view.set from ((View.set_reshape _ _).trans (View.set_slice _ r)).symm]; iexact H

/-- A whole buffer. -/
theorem whole_at (b : Ref sig .tc) (q : PosShare TreeShare) (f : b.ty.Contents (Elt F)) :
    (((c : Thread nD τ).loc b) ↦{q} f : sProp 𝕄) ⊢ At c (Memref.whole b) q Finset.univ f := by
  unfold At
  iintro H; iexists f
  isplitr; · ipureintro; intro i _; rfl
  rw [show (Memref.whole b).view.setOn Finset.univ = Finset.univ from View.set_whole b]; iexact H

theorem at_whole (b : Ref sig .tc) (q : PosShare TreeShare) (X : b.ty.Contents (Elt F)) :
    (At c (Memref.whole b) q Finset.univ X : sProp 𝕄) ⊢ (((c : Thread nD τ).loc b) ↦{q} X : sProp 𝕄) := by
  unfold At
  iintro ⟨%f, %hf, H⟩
  have e : f = X := funext fun i => hf i (Finset.mem_univ i)
  subst e
  rw [show (Memref.whole b).view.setOn Finset.univ = Finset.univ from View.set_whole b]; iexact H

/-- Owning a memref is holding all its elements. -/
theorem owns_at (m : Memref sig .tc sp s e) (q : PosShare TreeShare) (X : s.Idx → Elt F e) :
    (owns (c : Thread nD τ) m q X : sProp 𝕄) ⊢ At c m q Finset.univ X := by
  unfold At owns
  iintro ⟨%f, %hf, H⟩
  iexists f
  isplitr; · ipureintro; intro i _; rw [hf]
  iexact H

theorem at_owns (m : Memref sig .tc sp s e) (q : PosShare TreeShare) (X : s.Idx → Elt F e) :
    (At c m q Finset.univ X : sProp 𝕄) ⊢ owns (c : Thread nD τ) m q X := by
  unfold At owns
  iintro ⟨%f, %hf, H⟩
  iexists f
  isplitr; · ipureintro; funext i; exact hf i (Finset.mem_univ i)
  iexact H

end Rects

/-! ## Loads, stores and local copies -/

section Rules
variable (c : Dev nD) {α : Type} {sp sp' : Space} {s : Shape} {e : EltTy} {Q : α → sProp (MT nD τ sig ℕ (Elt F) ℕ UU ℕ)}

theorem wp_at_load {cs : CoreSpace} {m : Memref sig .tc cs s e} {r : Rect s} {hl : m.view.LoadsAt r.toLoadRect}
    {k : (r.shape.Idx → Elt F e) → Pr F α} {q : PosShare TreeShare} {S : Finset s.Idx} {X : s.Idx → Elt F e} (hS : r.set ⊆ S) :
    (At c m q S X : sProp 𝕄) ⊢ iprop((At c m q S X -∗ wpc c (k (fun j => X (r.emb j))) Q) -∗ wpc c (.op (.load m r.toLoadRect hl) k) Q) := by
  unfold At
  iintro ⟨%f, %hf, H⟩ Hk
  have hread : (m.access r).read (Elt F) f = fun j => X (r.emb j) := by
    funext j; exact hf _ (hS (by rw [← Rect.map_emb_univ]; exact Finset.mem_map_of_mem _ (Finset.mem_univ _)))
  have hsub : (m.access r).set ⊆ m.view.setOn S := by
    rw [show (m.access r).set = m.view.setOn r.set from View.set_slice _ r]; exact Finset.map_subset_map.mpr hS
  iapply (wp_load_rect 𝒱₀ (c : Thread nD τ) none Set.univ (m := m) (r := r) (S := m.view.setOn S) hsub) $$ H
  iintro H
  rw [hread]
  iapply Hk
  iexists f
  isplitr; · ipureintro; exact hf
  iexact H

theorem wp_at_store {cs : CoreSpace} {m : Memref sig .tc cs s e} {r : Rect s} {w : r.shape.Idx → Elt F e} {hx : (m.access r).Stores Finset.univ}
    {hm : (Finset.univ : Finset r.shape.Idx) = Finset.univ ∨ ∀ a, r.stride a = 1} {k : PUnit → Pr F α} {X Y : s.Idx → Elt F e} (hY : ∀ j, Y (r.emb j) = w j) :
    (At c m fullShare r.set X : sProp 𝕄) ⊢ iprop((At c m fullShare r.set Y -∗ wpc c (k ⟨⟩) Q) -∗ wpc c (.op (.store m r w Finset.univ hx hm) k) Q) := by
  unfold At
  iintro ⟨%f, %hf, H⟩ Hk
  have hsub : (m.access r).setOn Finset.univ ⊆ m.view.setOn r.set :=
    (show (m.access r).setOn Finset.univ = m.view.setOn r.set from View.set_slice _ r).subset
  iapply (wp_store 𝒱₀ (c : Thread nD τ) none Set.univ (m := m) (r := r) (Mk := Finset.univ) (S := m.view.setOn r.set) hsub) $$ H
  iintro H
  iapply Hk
  iexists _
  isplitr
  · ipureintro
    intro i hi
    rw [← Rect.map_emb_univ] at hi
    obtain ⟨j, _, rfl⟩ := Finset.mem_map.mp hi
    rw [hY]
    exact congrFun (View.read_write_univ (v := m.access r) f w) j
  iexact H

theorem owns_intro' {m : Memref sig .tc sp s e} {q : PosShare TreeShare} {V : s.Idx → Elt F e} {f : m.view.ty.Contents (Elt F)}
    (hf : m.view.read (Elt F) f = V) :
    ((m.view.loc (c : Thread nD τ) ↦[m.view.set]{q} f : sProp 𝕄)) ⊢ iprop(∃ f : m.view.ty.Contents (Elt F), ⌜m.view.read (Elt F) f = V⌝ ∗ (m.view.loc (c : Thread nD τ) ↦[m.view.set]{q} f)) := by
  iintro H
  iexists f
  isplitr; · ipureintro; exact hf
  iexact H

theorem land_owns {src : Memref sig .tc sp s e} {dst : Memref sig .tc sp' s e} {V : s.Idx → Elt F e} {f : src.view.ty.Contents (Elt F)}
    (g : dst.view.ty.Contents (Elt F)) (hf : src.view.read (Elt F) f = V) :
    ((dst.view.loc (c : Thread nD τ) ↦[dst.view.set]{fullShare} (dst.view.write (Elt F) g ((ReadAs.same : ReadAs (Elt F) s e s e).apply (src.view.read (Elt F) f)) Finset.univ) : sProp 𝕄))
      ⊢ iprop(∃ f : dst.view.ty.Contents (Elt F), ⌜dst.view.read (Elt F) f = V⌝ ∗ (dst.view.loc (c : Thread nD τ) ↦[dst.view.set]{fullShare} f)) :=
  owns_intro' c ((View.read_write_univ (v := dst.view) g _).trans hf)

/-- A local copy: the source read, the destination written when its semaphore is next waited for. -/
theorem wp_own_dma {src : Memref sig .tc sp s e} {dst : Memref sig .tc sp' s e} {sm : DmaSem sig}
    {hsrc : src.view.WordExact} {hdst : dst.view.WordExact} {hsem : DmaTarget.Typed (nD := nD) (τ := τ) (p := Proc.tc) sp (.dma sm) (.here dst)}
    {k : PUnit → Pr F α} {q : PosShare TreeShare} {V U : s.Idx → Elt F e} (N : ℕ) (hN : dst.view.amount (SemLoc.dma sm) = N) (hN0 : 0 < N) :
    iprop(owns (c : Thread nD τ) src q V ∗ owns (c : Thread nD τ) dst fullShare U ∗ semVal ((c : Thread nD τ), SemLoc.dma sm) 0)
      ⊢ iprop((Flight EC (c : Thread nD τ) (.dma sm) 0 N iprop(owns (c : Thread nD τ) dst fullShare V ∗ owns (c : Thread nD τ) src q V) -∗ wpc c (k ⟨⟩) Q)
          -∗ wpc c (.op (.enqueueDma src (.here dst) (.dma sm) hsrc hdst hsem) k) Q) := by
  unfold owns
  iintro ⟨⟨%f, %hf, Hs⟩, ⟨%g, %hg, Hd⟩, Hv⟩ Hk
  iapply (wp_dmaLocal EC 𝒱₀ (c : Thread nD τ) none (q := q) (0 : ℕ) N hN hN0 (Finset.Subset.refl _)) $$ [Hs Hd Hv]
  · isplitl [Hs]; · iexact Hs
    isplitl [Hd] <;> iassumption
  iintro HF
  iapply Hk
  iapply (Flight_mono EC (c : Thread nD τ) (BI.sep_mono (land_owns c g hf) (owns_intro' c hf))) $$ HF

end Rules

end Cert.KernelIdeal.Rs

end
-- ==== Proof.Ideal.Values.lean ====
/-
  What the buffers hold: the cast weights, a slot built from four row blocks, the partial products hop by hop, the
  result; and where the elements of the rectangles lie.
-/
module

public import proofs.«01_k».proof.Proof.Ideal.Views
public import Idealize.ShloMosaic.Lib.ValueIdx
public import Idealize.ShloMosaic.Lib.ValueLayout
public import Idealize.ShloMosaic.Lib.Pipeline.Value

@[expose] public section

set_option maxRecDepth 65536

noncomputable section

namespace Cert.KernelIdeal.Rs

open Idealize.ShloMosaic Idealize.ShloMosaic.TcCoe
open Idealize.ShloMosaic.ValueIdx (ix2 ix3 eq_ix2)
open Cert.KernelIdeal.Gen

variable {F : FTy → Type} [FloatOps F]

/-! ## Where rectangles lie -/

theorem emb_val {s : Shape} {off size : Fin s.rank → Nat} {inb : ∀ a, off a + size a ≤ s.size a} (j : (Rect.unit (s := s) off size inb).shape.Idx) (a : Fin s.rank) :
    ((Rect.unit (s := s) off size inb).emb j a).val = off a + (j a).val := by
  show off a + 1 * (j a).val = _; rw [Nat.one_mul]

theorem mem_rows {l s : Fin 2} {b : Fin 4} {i : S2x2x1024x2048.Idx} :
    i ∈ (rRows l s b).set ↔ (i 0).val = l.val ∧ (i 1).val = s.val ∧ 256 * b.val ≤ (i 2).val ∧ (i 2).val < 256 * b.val + 256 := by
  rw [Rect.mem_set_unit]
  have h3 : (i 3).val < 2048 := (i 3).isLt
  constructor
  · intro h
    have h0 : l.val ≤ (i 0).val ∧ (i 0).val < l.val + 1 := h 0
    have h1 : s.val ≤ (i 1).val ∧ (i 1).val < s.val + 1 := h 1
    have h2 : 256 * b.val ≤ (i 2).val ∧ (i 2).val < 256 * b.val + 256 := h 2
    omega
  · rintro ⟨h0, h1, h2⟩ a
    match a with
    | 0 => show l.val ≤ (i 0).val ∧ (i 0).val < l.val + 1; omega
    | 1 => show s.val ≤ (i 1).val ∧ (i 1).val < s.val + 1; omega
    | 2 => exact h2
    | 3 => show 0 ≤ (i 3).val ∧ (i 3).val < 0 + 2048; omega

theorem mem_slot {l s : Fin 2} {i : S2x2x1024x2048.Idx} : i ∈ (rSlot l s).set ↔ (i 0).val = l.val ∧ (i 1).val = s.val := by
  rw [Rect.mem_set_unit]
  have h2 : (i 2).val < 1024 := (i 2).isLt
  have h3 : (i 3).val < 2048 := (i 3).isLt
  constructor
  · intro h
    have h0 : l.val ≤ (i 0).val ∧ (i 0).val < l.val + 1 := h 0
    have h1 : s.val ≤ (i 1).val ∧ (i 1).val < s.val + 1 := h 1
    omega
  · rintro ⟨h0, h1⟩ a
    match a with
    | 0 => show l.val ≤ (i 0).val ∧ (i 0).val < l.val + 1; omega
    | 1 => show s.val ≤ (i 1).val ∧ (i 1).val < s.val + 1; omega
    | 2 => show 0 ≤ (i 2).val ∧ (i 2).val < 0 + 1024; omega
    | 3 => show 0 ≤ (i 3).val ∧ (i 3).val < 0 + 2048; omega

theorem rows_sub (l s : Fin 2) (b : Fin 4) : (rRows l s b).set ⊆ (rSlot l s).set := fun i hi => by
  have := mem_rows.mp hi
  exact mem_slot.mpr ⟨this.1, this.2.1⟩

theorem mem_stage {s : Fin 2} {i : S2x256x2048.Idx} : i ∈ (rStage s).set ↔ (i 0).val = s.val := by
  rw [Rect.mem_set_unit]
  have h1 : (i 1).val < 256 := (i 1).isLt
  have h2 : (i 2).val < 2048 := (i 2).isLt
  constructor
  · intro h
    have h0 : s.val ≤ (i 0).val ∧ (i 0).val < s.val + 1 := h 0
    omega
  · intro h0 a
    match a with
    | 0 => show s.val ≤ (i 0).val ∧ (i 0).val < s.val + 1; omega
    | 1 => show 0 ≤ (i 1).val ∧ (i 1).val < 0 + 256; omega
    | 2 => show 0 ≤ (i 2).val ∧ (i 2).val < 0 + 2048; omega

theorem mem_blk {h : Fin 2} {b : Fin 8} {i : S2048x4096.Idx} :
    i ∈ (rBlk h b).set ↔ (256 * b.val ≤ (i 0).val ∧ (i 0).val < 256 * b.val + 256) ∧ 2048 * h.val ≤ (i 1).val ∧ (i 1).val < 2048 * h.val + 2048 := by
  rw [Rect.mem_set_unit]
  constructor
  · exact fun h => ⟨h 0, h 1⟩
  · rintro ⟨h0, h1⟩ a
    match a with
    | 0 => exact h0
    | 1 => exact h1

theorem mem_half {h : Fin 2} {i : S2048x4096.Idx} : i ∈ (rHalf h).set ↔ 2048 * h.val ≤ (i 1).val ∧ (i 1).val < 2048 * h.val + 2048 := by
  rw [Rect.mem_set_unit]
  have h0 : (i 0).val < 2048 := (i 0).isLt
  constructor
  · exact fun h => h 1
  · rintro h1 a
    match a with
    | 0 => show 0 ≤ (i 0).val ∧ (i 0).val < 0 + 2048; omega
    | 1 => exact h1

theorem blk_sub (h : Fin 2) (b : Fin 8) : (rBlk h b).set ⊆ (rHalf h).set := fun i hi => mem_half.mpr (mem_blk.mp hi).2

theorem rX_emb (j : S256x2048.Idx) : (rX.emb j : S256x2048.Idx) = j := by
  funext a
  match a with
  | 0 => exact Fin.ext (by rw [emb_val]; exact Nat.zero_add _)
  | 1 => exact Fin.ext (by rw [emb_val]; exact Nat.zero_add _)

/-! ## Contents -/

/-- What a slot holding `V` has at an index of the whole communication buffer; what a staging slot has. -/
def cslot (V : Vec F S1024x2048 .bf16) : Vec F S2x2x1024x2048 .bf16 := fun i => V (ix2 (i 2) (i 3))
def stg (V : Vec F S256x2048 .f32) : Vec F S2x256x2048 .f32 := fun i => V (ix2 (i 1) (i 2))

theorem cslot_squeeze (V : Vec F S1024x2048 .bf16) (l s : Fin 2) (j : S1024x2048.Idx) :
    cslot V ((rSlot l s).emb (Shape.reshapeEquiv squeezes_S1x1x1024x2048_S1024x2048.numel_eq j)) = V j := by
  have e : Shape.reshapeEquiv squeezes_S1x1x1024x2048_S1024x2048.numel_eq j = ValueIdx.ix4 (⟨0, Nat.one_pos⟩ : Fin 1) (⟨0, Nat.one_pos⟩ : Fin 1) (j 0) (j 1) := by
    conv_lhs => rw [eq_ix2 j]
    exact ValueIdx.reshapeEquiv_ix2_11ab _ (j 0) (j 1)
  rw [e]
  unfold cslot
  congr 1
  funext a
  match a with
  | 0 => exact Fin.ext ((emb_val _ 2).trans (Nat.zero_add _))
  | 1 => exact Fin.ext ((emb_val _ 3).trans (Nat.zero_add _))

theorem stg_squeeze (V : Vec F S256x2048 .f32) (s : Fin 2) (j : S256x2048.Idx) :
    stg V ((rStage s).emb (Shape.reshapeEquiv squeezes_S1x256x2048_S256x2048.numel_eq j)) = V j := by
  have e : Shape.reshapeEquiv squeezes_S1x256x2048_S256x2048.numel_eq j = ix3 (⟨0, Nat.one_pos⟩ : Fin 1) (j 0) (j 1) := by
    conv_lhs => rw [eq_ix2 j]
    exact ValueIdx.reshapeEquiv_ix2_1ab _ (j 0) (j 1)
  rw [e]
  unfold stg
  congr 1
  funext a
  match a with
  | 0 => exact Fin.ext ((emb_val _ 1).trans (Nat.zero_add _))
  | 1 => exact Fin.ext ((emb_val _ 2).trans (Nat.zero_add _))

/-- Row block `b` of a slot's contents, and a slot's contents from its four row blocks. -/
def rowsOf (V : Vec F S1024x2048 .bf16) (b : Fin 4) : Vec F S1x1x256x2048 .bf16 :=
  fun j => V (ix2 ⟨256 * b.val + (j 2).val, by have := b.2; have : (j 2).val < 256 := (j 2).isLt; omega⟩ (j 3))
def joinRows (B : Fin 4 → Vec F S1x1x256x2048 .bf16) : Vec F S1024x2048 .bf16 :=
  fun i => B ⟨(i 0).val / 256, by have : (i 0).val < 1024 := (i 0).isLt; omega⟩
    (ValueIdx.ix4 (0 : Fin 1) (0 : Fin 1) (⟨(i 0).val % 256, Nat.mod_lt _ (by decide)⟩ : Fin 256) (i 1))

theorem rowsOf_joinRows (B : Fin 4 → Vec F S1x1x256x2048 .bf16) (b : Fin 4) : rowsOf (joinRows B) b = B b := by
  funext j
  have h2 : (j 2).val < 256 := (j 2).isLt
  have hb := b.2
  have eb : (⟨(256 * b.val + (j 2).val) / 256, by omega⟩ : Fin 4) = b := Fin.ext (by show (256 * b.val + (j 2).val) / 256 = b.val; omega)
  have ej : (ValueIdx.ix4 (0 : Fin 1) (0 : Fin 1) (⟨(256 * b.val + (j 2).val) % 256, Nat.mod_lt _ (by decide)⟩ : Fin 256) (j 3) : S1x1x256x2048.Idx) = j := by
    funext a
    match a with
    | 0 => exact Subsingleton.elim (α := Fin 1) _ _
    | 1 => exact Subsingleton.elim (α := Fin 1) _ _
    | 2 => exact Fin.ext (by show (256 * b.val + (j 2).val) % 256 = (j 2).val; omega)
    | 3 => rfl
  show B ⟨(256 * b.val + (j 2).val) / 256, _⟩ (ValueIdx.ix4 (0 : Fin 1) (0 : Fin 1) (⟨(256 * b.val + (j 2).val) % 256, _⟩ : Fin 256) (j 3)) = B b j
  rw [eb, ej]

/-- Reading row block `b` of a slot that holds `V`. -/
theorem cslot_rows (V : Vec F S1024x2048 .bf16) (l s : Fin 2) (b : Fin 4) (j : S1x1x256x2048.Idx) : cslot V ((rRows l s b).emb j) = rowsOf V b j := by
  unfold cslot rowsOf
  congr 1
  funext a
  match a with
  | 0 => exact Fin.ext (emb_val _ 2)
  | 1 => exact Fin.ext ((emb_val _ 3).trans (Nat.zero_add _))

/-- Block `j` of the cast weights, from the staged block. -/
def wb (W : Vec F S2048x4096 .f32) : Vec F S2048x4096 .bf16 := truncf .bf16 W bitsLt_bf16_f32
/-- A column half of the cast weights. -/
def whalf (W : Vec F S2048x4096 .f32) (h : Fin 2) : Vec F S2048x2048 .bf16 := fun j => wb W ((rHalf h).emb j)
/-- The row block of `x` at `o`. -/
def xrow (X : Vec F S8192x2048 .f32) (o : XOff) : Vec F S256x2048 .f32 := fun j => X ((Rect.unit (s := S8192x2048) o.off S256x2048.size o.inb).emb j)

theorem pay1_stg (V : Vec F S256x2048 .f32) (s : Fin 2) (j : S256x2048.Idx) :
    k0_pay1 (fun i => stg V ((rStage s).emb i)) j = FloatOps.truncf .bf16 bitsLt_bf16_f32 (V j) := by
  unfold k0_pay1
  rw [shapeCast_self]
  show FloatOps.truncf .bf16 bitsLt_bf16_f32 (stg V ((rStage s).emb (Shape.reshapeEquiv _ j))) = _
  exact congrArg (FloatOps.truncf .bf16 bitsLt_bf16_f32) (stg_squeeze V s j)

/-! ## The partial products -/

section Products
variable (X : Dev nD → Vec F S8192x2048 .f32) (W : Dev nD → Vec F S2048x4096 .f32)

/-- What device `c` builds in its first hop of lane `l` and direction `di`: its own product. -/
def firstP (di l : Fin 2) (c : Dev nD) : Vec F S1024x2048 .bf16 :=
  joinRows fun b => k0_pay9 (xrow (X c) (rowOff (chunk 0 di c) (chunk_lt 0 di c) l b)) (whalf (W c) di)
/-- What it builds in hop `h` upon `V`, which arrived: its own product added to it. -/
def addP (di l : Fin 2) (h : Fin 3) (c : Dev nD) (V : Vec F S1024x2048 .bf16) : Vec F S1024x2048 .bf16 :=
  joinRows fun b => k0_pay21 (xrow (X c) (rowOff (chunk h di c) (chunk_lt h di c) l b)) (whalf (W c) di) (rowsOf V b)
/-- What device `c` has built in hop `h`: from the second hop on upon what its upstream neighbour built one hop before. -/
def built (di l : Fin 2) (h : Fin 3) (c : Dev nD) : Vec F S1024x2048 .bf16 :=
  match h with
  | 0 => firstP X W di l c
  | 1 => addP X W di l 1 c (firstP X W di l (upD di c))
  | 2 => addP X W di l 2 c (addP X W di l 1 (upD di c) (firstP X W di l (upD di (upD di c))))

/-- Block `q` of lane `l` and column half `di` of the result. -/
def outBlk (di l : Fin 2) (q : Fin 4) (c : Dev nD) : Vec F S1x256x2048 .f32 :=
  k0_pay30 (k0_pay29 (xrow (X c) (rowOff c.val c.isLt l q)) (whalf (W c) di)) (rowsOf (built X W di l 2 (upD di c)) q)

/-- The result of device `c`. -/
def outAll (c : Dev nD) : Vec F S2048x4096 .f32 := fun i =>
  outBlk X W ⟨(i 1).val / 2048, by have : (i 1).val < 4096 := (i 1).isLt; omega⟩ ⟨(i 0).val / 1024, by have : (i 0).val < 2048 := (i 0).isLt; omega⟩
    ⟨(i 0).val % 1024 / 256, by omega⟩ c (ix3 (0 : Fin 1) (⟨(i 0).val % 256, Nat.mod_lt _ (by decide)⟩ : Fin 256) (⟨(i 1).val % 2048, Nat.mod_lt _ (by decide)⟩ : Fin 2048))

/-- The number of a block among the row blocks. -/
def bq (l : Fin 2) (q : Fin 4) : Fin 8 := ⟨4 * l.val + q.val, by omega⟩

/-- Block by block, the result is what the kernel stages for the block. -/
theorem outAll_blk (c : Dev nD) (di l : Fin 2) (q : Fin 4) (j : S256x2048.Idx) :
    outAll X W c ((rBlk di (bq l q)).emb j) = outBlk X W di l q c (ix3 (0 : Fin 1) (j 0) (j 1)) := by
  have h0 : (((rBlk di (bq l q)).emb j) 0).val = 256 * (4 * l.val + q.val) + (j 0).val := by rw [emb_val]; rfl
  have h1 : (((rBlk di (bq l q)).emb j) 1).val = 2048 * di.val + (j 1).val := by rw [emb_val]; rfl
  have b0 : (j 0).val < 256 := (j 0).isLt
  have b1 : (j 1).val < 2048 := (j 1).isLt
  have key : ∀ (i : S2048x4096.Idx), (i 0).val = 256 * (4 * l.val + q.val) + (j 0).val → (i 1).val = 2048 * di.val + (j 1).val →
      outAll X W c i = outBlk X W di l q c (ix3 (0 : Fin 1) (j 0) (j 1)) := by
    intro i e0 e1
    unfold outAll
    have hd : (⟨(i 1).val / 2048, by have : (i 1).val < 4096 := (i 1).isLt; omega⟩ : Fin 2) = di := Fin.ext (by show (i 1).val / 2048 = di.val; omega)
    have hl : (⟨(i 0).val / 1024, by have : (i 0).val < 2048 := (i 0).isLt; omega⟩ : Fin 2) = l := Fin.ext (by show (i 0).val / 1024 = l.val; omega)
    have hq : (⟨(i 0).val % 1024 / 256, by omega⟩ : Fin 4) = q := Fin.ext (by show (i 0).val % 1024 / 256 = q.val; omega)
    have hr : (⟨(i 0).val % 256, Nat.mod_lt _ (by decide)⟩ : Fin 256) = j 0 := Fin.ext (by show (i 0).val % 256 = (j 0).val; omega)
    have hc : (⟨(i 1).val % 2048, Nat.mod_lt _ (by decide)⟩ : Fin 2048) = j 1 := Fin.ext (by show (i 1).val % 2048 = (j 1).val; omega)
    rw [hd, hl, hq, hr, hc]
  exact key _ h0 h1

end Products

end Cert.KernelIdeal.Rs

end
-- ==== Proof.Ideal.Sched.lean ====
/-
  The schedule of the kernel's synchronisation: its cells, who owes each of their rounds what, what a round hands
  over, what a device owes at launch, and the levels that make every wait safe.
-/
module

public import proofs.«01_k».proof.Proof.Ideal.Values

@[expose] public section

set_option maxRecDepth 65536

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ

/-! ## Cells -/

/-- The cells of a device that other devices pay into or that its own sends complete on. -/
inductive Kd where
  | bar
  | cred (di l : Fin 2)
  | send (di l s : Fin 2)
  | recv (di l s : Fin 2)
  deriving DecidableEq, Fintype

def csem : Kd → SemLoc sig
  | .bar => .reg barS
  | .cred di l => .reg (credS di l)
  | .send di l s => .dma (sendS di l s)
  | .recv di l s => .dma (recvS di l s)

theorem csem_inj : Function.Injective csem := by
  have h : ∀ a b : Kd, csem a = csem b → a = b := by decide +kernel
  exact fun a b => h a b

abbrev kcell (ck : Dev nD × Kd) : GSem nD τ sig := ((ck.1 : Thread nD τ), csem ck.2)
abbrev barCell (c : Dev nD) : GSem nD τ sig := ((c : Thread nD τ), .reg barS)
abbrev credCell (c : Dev nD) (di l : Fin 2) : GSem nD τ sig := ((c : Thread nD τ), .reg (credS di l))
abbrev sendCell (c : Dev nD) (di l s : Fin 2) : GSem nD τ sig := ((c : Thread nD τ), .dma (sendS di l s))
abbrev recvCell (c : Dev nD) (di l s : Fin 2) : GSem nD τ sig := ((c : Thread nD τ), .dma (recvS di l s))

open Classical in
/-- Which cell a semaphore is. -/
def dec (sm : SemLoc sig) : Option Kd := if h : ∃ k, csem k = sm then some h.choose else none

theorem dec_csem (k : Kd) : dec (csem k) = some k := by
  unfold dec
  rw [dif_pos ⟨k, rfl⟩]
  exact congrArg some (csem_inj (Exists.choose_spec (⟨k, rfl⟩ : ∃ k', csem k' = csem k)))

/-- The units a transfer of a slot credits. -/
def N : ℕ := (slotM 0 0 0 : Memref sig .tc .vmem S1024x2048 .bf16).view.dmaCredit
theorem N_pos : 0 < N := View.dmaCredit_pos _ (by decide)
theorem N_eq : ∀ di l s : Fin 2, (slotM di l s : Memref sig .tc .vmem S1024x2048 .bf16).view.dmaCredit = N := fun _ _ _ => rfl

/-! ## Rounds -/

/-- The hop a number stands for. -/
def hopR (r : ℕ) : Fin 3 := ⟨r % 3, Nat.mod_lt _ (by decide)⟩

def kduties : Kd → ℕ → Finset Bool
  | .bar, r => if r = 0 then Finset.univ else ∅
  | .cred _ _, r => if r < 3 then {false} else ∅
  | .send _ _ s, r => if 2 * r + s.val < 3 then {false} else ∅
  | .recv _ _ s, r => if 2 * r + (1 - s.val) < 3 then {false} else ∅

def kamount : Kd → ℕ
  | .bar => 1
  | .cred _ _ => 1
  | .send _ _ _ => N
  | .recv _ _ _ => N

theorem kamount_pos (k : Kd) : 0 < kamount k := by cases k <;> first | exact Nat.one_pos | exact N_pos

section Rd
variable (X : Dev nD → Vec F S8192x2048 .f32) (W : Dev nD → Vec F S2048x4096 .f32)

/-- Device `c`'s slot `s` of a lane and direction, holding anything; holding `V`. -/
def slotAny (c : Dev nD) (di l s : Fin 2) : sProp 𝕄 := iprop(∃ V : Vec F S1024x2048 .bf16, owns (c : Thread nD τ) (slotM di l s) fullShare V)
def slotIs (c : Dev nD) (di l s : Fin 2) (V : Vec F S1024x2048 .bf16) : sProp 𝕄 := owns (c : Thread nD τ) (slotM di l s) fullShare V

instance slotIs_storable (c : Dev nD) (di l s : Fin 2) (V : Vec F S1024x2048 .bf16) : BI.Storable (upEmb : UEmb _ 𝕄) (slotIs c di l s V) := by
  unfold slotIs owns; infer_instance
instance slotAny_storable (c : Dev nD) (di l s : Fin 2) : BI.Storable (upEmb : UEmb _ 𝕄) (slotAny (F := F) c di l s) := by
  unfold slotAny owns; infer_instance

/-- What a round hands the owner of the cell: a credit, the downstream device's free slot; an arrival, the slot with
    what the upstream device built; a completed send, the slot it left. -/
def credPay (c : Dev nD) (di l : Fin 2) (h : Fin 3) : sProp 𝕄 :=
  iprop(slotAny (dnD di c) di l (ot h) ∗ reached ER (recvCell (dnD di c) di l (ot h)) (h.val / 2))
def recvPay (c : Dev nD) (di l : Fin 2) (h : Fin 3) : sProp 𝕄 :=
  iprop(slotIs c di l (ot h) (built X W di l h (upD di c)) ∗ reached ER (credCell (upD di c) di l) (h.val + 1))
def sendPay (c : Dev nD) (di l : Fin 2) (h : Fin 3) : sProp 𝕄 := slotAny c di l (sl h)

def kpay : Kd → Dev nD → ℕ → sProp 𝕄
  | .bar, _, _ => iprop(emp)
  | .cred di l, c, r => credPay c di l (hopR r)
  | .send di l s, c, r => sendPay c di l (hopR (2 * r + s.val))
  | .recv di l s, c, r => recvPay X W c di l (hopR (2 * r + (1 - s.val)))

instance kpay_storable (k : Kd) (c : Dev nD) (r : ℕ) : BI.Storable (upEmb : UEmb _ 𝕄) (kpay X W k c r) := by
  cases k <;> unfold kpay <;> (try unfold credPay) <;> (try unfold recvPay) <;> (try unfold sendPay) <;> infer_instance

/-- The schedule. -/
def Rd : Rounds.Schedule (GSem nD τ sig) Bool 𝕄 where
  duties g r := if g.1.2 = .tc then (match dec g.2 with | some k => kduties k r | none => ∅) else ∅
  unitless _ := False
  amount g _ _ := match dec g.2 with | some k => kamount k | none => 1
  payload g r _ := match dec g.2 with | some k => kpay X W k g.1.1 r | none => iprop(emp)
  amount_pos g _ _ _ := by
    cases dec g.2 with
    | some k => exact kamount_pos k
    | none => exact Nat.one_pos

instance Rd_payload_storable (g : GSem nD τ sig) (r : ℕ) (d : Bool) : BI.Storable (upEmb : UEmb _ 𝕄) ((Rd X W).payload g r d) := by
  show BI.Storable upEmb (match dec g.2 with | some k => kpay X W k g.1.1 r | none => iprop(emp))
  cases dec g.2 <;> infer_instance

variable (c : Dev nD)

theorem duties_k (k : Kd) (r : ℕ) : (Rd X W).duties (kcell (c, k)) r = kduties k r := by
  show (if (Proc.tc : Proc τ) = .tc then (match dec (csem k) with | some k => kduties k r | none => ∅) else ∅) = _
  rw [if_pos rfl, dec_csem]
theorem amount_k (k : Kd) (r : ℕ) (d : Bool) : (Rd X W).amount (kcell (c, k)) r d = kamount k := by
  show (match dec (csem k) with | some k => kamount k | none => 1) = _
  rw [dec_csem]
theorem payload_k (k : Kd) (r : ℕ) (d : Bool) : (Rd X W).payload (kcell (c, k)) r d = kpay X W k c r := by
  show (match dec (csem k) with | some k => kpay X W k c r | none => iprop(emp)) = _
  rw [dec_csem]
theorem expect_one (k : Kd) (r : ℕ) (h : kduties k r = {false}) : (Rd X W).expect (kcell (c, k)) r = kamount k := by
  unfold Schedule.expect Schedule.amountOf
  rw [duties_k, h, Finset.sum_singleton, amount_k]
theorem expect_bar : (Rd X W).expect (kcell (c, .bar)) 0 = 2 := by
  unfold Schedule.expect Schedule.amountOf
  rw [duties_k, Finset.sum_congr rfl fun d _ => amount_k X W c .bar 0 d, Finset.sum_const]
  rfl
theorem rest_one (k : Kd) (r : ℕ) (h : kduties k r = {false}) :
    bigSep ((Rd X W).duties (kcell (c, k)) r \ ∅) (fun d => (Rd X W).payload (kcell (c, k)) r d) = kpay X W k c r := by
  rw [Finset.sdiff_empty, duties_k, h, bigSep_singleton, payload_k]

end Rd

/-! ## Levels -/

def L (g : GSem nD τ sig) : Finset ℕ := if g.1.2 = .tc then Finset.range 64 else ∅
def lv (_ : GSem nD τ sig) (i : ℕ) : ℕ := i

theorem L_of_ne (g : GSem nD τ sig) (h : g.1.2 ≠ .tc) : L g = ∅ := if_neg h
theorem mem_L (c : Dev nD) (sm : SemLoc sig) {i : ℕ} (h : i < 64) : i ∈ L ((c : Thread nD τ), sm) := by
  unfold L; rw [if_pos rfl]; exact Finset.mem_range.mpr h

/-! ## What a device owes -/

/-- The number of a step: hop, lane, direction. -/
def kk (h : Fin 3) (l di : Fin 2) : ℕ := 4 * h.val + 2 * l.val + di.val
theorem kk_lt (h : Fin 3) (l di : Fin 2) : kk h l di < 12 := by unfold kk; omega

/-- In a step the device owes its upstream neighbour a credit and its downstream neighbour the arrival. -/
def sendT (c : Dev nD) (h : Fin 3) (l di : Fin 2) : CellTallies nD τ sig ℕ := tallyAt (recvCell (dnD di c) di l (ot h)) (2 * kk h l di + 3) N
def credT (c : Dev nD) (h : Fin 3) (l di : Fin 2) : CellTallies nD τ sig ℕ := tallyAt (credCell (upD di c) di l) (2 * kk h l di + 2) 1

/-- What the steps of a list owe. -/
def owedL (c : Dev nD) : List (Fin 3 × Fin 2 × Fin 2) → CellTallies nD τ sig ℕ
  | [] => 0
  | (h, l, di) :: rest => (owedL c rest + sendT c h l di) + credT c h l di

/-- Every debt of `O` is on a TensorCore's cell under an index of at least `b`. -/
def Above (b : ℕ) (O : CellTallies nD τ sig ℕ) : Prop := ∀ g i, 0 < O g i → i ∈ L g ∧ b ≤ i

theorem above_zero (b : ℕ) : Above b 0 := fun g i h => absurd h (Nat.lt_irrefl 0)
theorem above_tally (b : ℕ) (c : Dev nD) (sm : SemLoc sig) (i n : ℕ) (hb : b ≤ i) (hi : i < 64) : Above b (tallyAt ((c : Thread nD τ), sm) i n) := by
  intro g j h
  rw [tallyAt_apply] at h
  by_cases e : g = ((c : Thread nD τ), sm) ∧ j = i
  · rw [e.1, e.2]; exact ⟨mem_L c sm hi, hb⟩
  · rw [if_neg e] at h; exact absurd h (Nat.lt_irrefl 0)
theorem above_add {b : ℕ} {O O' : CellTallies nD τ sig ℕ} (h : Above b O) (h' : Above b O') : Above b (O + O') := by
  intro g i hp
  rw [Pi.add_apply, Finsupp.add_apply] at hp
  rcases Nat.eq_zero_or_pos (O g i) with e | e
  · rw [e, Nat.zero_add] at hp; exact h' g i hp
  · exact h g i e

theorem above_owed (c : Dev nD) (b : ℕ) : ∀ R : List (Fin 3 × Fin 2 × Fin 2), (∀ e ∈ R, b ≤ 2 * kk e.1 e.2.1 e.2.2 + 2) → Above b (owedL c R)
  | [], _ => above_zero b
  | (h, l, di) :: rest, hb => by
    have h0 := hb (h, l, di) List.mem_cons_self
    have hk := kk_lt h l di
    refine above_add (above_add (above_owed c b rest fun e he => hb e (List.mem_cons_of_mem _ he)) ?_) ?_
    · exact above_tally _ _ _ _ _ (by dsimp only at h0; omega) (by omega)
    · exact above_tally _ _ _ _ _ h0 (by omega)

/-- A wait under index `i` is safe while every debt lies above `i`. -/
theorem mayWait_above (c : Dev nD) (sm : SemLoc sig) (i : ℕ) (hi : i < 64) {O : CellTallies nD τ sig ℕ} (h : Above (i + 1) O) :
    (levAts L lv : sProp 𝕄) ⊢ MayWait (c : Thread nD τ) sm i O :=
  MayOwe.of_cut (L := L) (lev := lv) i (fun p hp => by rw [Finset.mem_singleton.mp hp]; exact mem_L c sm hi)
    (fun g u hg => (h g u hg).1)
    (fun p hp => by rw [Finset.mem_singleton.mp hp]; exact Nat.le_refl _)
    (fun g u hg => (h g u hg).2)

end Cert.KernelIdeal.Rs

end
-- ==== Proof.Ideal.Local.lean ====
/-
  The pieces of the kernel that stay on the device: casting the weights, fetching a row block of `x`, building a slot.
-/
module

public import proofs.«01_k».proof.Proof.Ideal.Sched

@[expose] public section

set_option maxRecDepth 65536

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ

/-- What device `c` still owes, whatever it has waited for. -/
def Ow (c : Dev nD) (O : CellTallies nD τ sig ℕ) : sProp (MT nD τ sig ℕ (Elt F) ℕ UU ℕ) := iprop(∃ W : Waits sig ℕ, owes (c : Thread nD τ) O W)

section Pieces
variable (c : Dev nD) {α : Type} {Q : α → sProp (MT nD τ sig ℕ (Elt F) ℕ UU ℕ)}

/-- The wait of a local copy. -/
theorem wp_own_wait {sp sp' : Space} {s s' : Shape} {e e' : EltTy} {sem : DmaSem sig}
    {srcw : Memref sig .tc sp' s' e'} {dstw : Memref sig .tc sp s e} {hsrc : srcw.view.WordExact} {hdst : dstw.view.WordExact}
    {k : PUnit → Pr F α} {n : ℕ} (hN : dstw.view.dmaCredit = n) {D : sProp (MT nD τ sig ℕ (Elt F) ℕ UU ℕ)} {O : CellTallies nD τ sig ℕ} (hO : Above 1 O) :
    iprop(levAts L lv ∗ Flight EC (c : Thread nD τ) (.dma sem) 0 n D ∗ Ow c O)
      ⊢ iprop((iprop(D ∗ semVal ((c : Thread nD τ), SemLoc.dma sem) 0 ∗ Ow c O) -∗ wpc c (k ⟨⟩) Q)
          -∗ wpc c (.op (.waitDma2 sem srcw dstw hsrc hdst) k) Q) := by
  unfold Ow
  iintro ⟨#Hl, HF, ⟨%W, HO⟩⟩ Hk
  iapply (wp_waitLocalO EC 𝒱₀ (c : Thread nD τ) none (0 : ℕ) hN (O := O) (W := W)) $$ [HF HO]
  · isplitl [HF]; · iexact HF
    isplitl [HO]; · iexact HO
    iapply (mayWait_above c _ 0 (by decide) hO); iexact Hl
  iintro ⟨HD, Hv, HO⟩
  iapply Hk
  isplitl [HD]; · iexact HD
  isplitl [Hv]; · iexact Hv
  iexists _; iexact HO

/-! ## The weights -/

/-- A staging slot holding anything, and its semaphore at zero. -/
def stageAny (s : Fin 2) : sProp (MT nD τ sig ℕ (Elt F) ℕ UU ℕ) := iprop(∃ V : Vec F S256x2048 .f32, owns (c : Thread nD τ) (stageM s) fullShare V)
/-- The units a transfer of a staged block credits. -/
def NS : ℕ := (stageM 0 : Memref sig .tc .vmem S256x2048 .f32).view.dmaCredit
theorem NS_eq (s : Fin 2) : (stageM s : Memref sig .tc .vmem S256x2048 .f32).view.dmaCredit = NS := rfl
theorem NS_amt (s : Fin 2) (q : DmaSem sig) : (stageM s : Memref sig .tc .vmem S256x2048 .f32).view.amount (SemLoc.dma q) = NS := rfl
theorem NS_pos : 0 < NS := View.dmaCredit_pos _ (by decide)

variable (W : Vec F S2048x4096 .f32)

/-- Block `b` of half `h` of `w`. -/
def wblkV (h : Fin 2) (b : Fin 8) : Vec F S256x2048 .f32 := fun j => W ((rBlk h b).emb j)

/-- The copy of a block of `w` into staging slot `s`, under way. -/
def wFly (h : Fin 2) (b : Fin 8) (s : Fin 2) (q : PosShare TreeShare) : sProp (MT nD τ sig ℕ (Elt F) ℕ UU ℕ) :=
  iprop(Flight EC (c : Thread nD τ) (.dma (outS s)) 0 NS
      iprop(owns (c : Thread nD τ) (stageM s) fullShare (wblkV W h b) ∗ owns (c : Thread nD τ) (wBlk h b) q (wblkV W h b))
    ∗ At c wA q (Finset.univ \ (rBlk h b).set) W)

/-- A staging slot free: the slot, its semaphore at zero, and the share of `w` that copies into it read. -/
def wFree (s : Fin 2) (q : PosShare TreeShare) : sProp (MT nD τ sig ℕ (Elt F) ℕ UU ℕ) :=
  iprop(stageAny c s ∗ semVal ((c : Thread nD τ), SemLoc.dma (outS s)) 0 ∗ At c wA q Finset.univ W)

theorem wp_wStart (h : Fin 2) (b : Fin 8) (s : Fin 2) (q : PosShare TreeShare) {k : PUnit → Pr F α} :
    wFree c W s q ⊢ iprop((wFly c W h b s q -∗ wpc c (k ⟨⟩) Q) -∗ wpc c (wStart h b s >>= k) Q) := by
  unfold wFree wFly stageAny wStart
  simp only [Prog.lift, Prog.bind_op, Prog.bind_ret]
  iintro ⟨⟨%V, Hs⟩, Hv, Hw⟩ Hk
  ihave Hw := (at_sdiff c wA q (Finset.subset_univ (rBlk h b).set) W).1 $$ Hw
  icases Hw with ⟨Hw, Hr⟩
  ihave Hw := (at_slice c wA q (rBlk h b) (fun _ => rfl) W) $$ Hw
  iapply (wp_own_dma c (src := wBlk h b) (dst := stageM s) (sm := outS s) (V := wblkV W h b) (U := V) (q := q) NS (NS_amt s _) NS_pos) $$ [Hw Hs Hv]
  · isplitl [Hw]; · iexact Hw
    isplitl [Hs] <;> iassumption
  iintro HF
  iapply Hk
  isplitl [HF] <;> iassumption

/-- The cast weights of a half, the first `n` blocks done. -/
def wPart (h : Fin 2) (Y : Vec F S2048x4096 .bf16) (n : ℕ) : Vec F S2048x4096 .bf16 := fun i => if (i 0).val < 256 * n then wb W i else Y i

theorem wp_wFinish (h : Fin 2) (b : Fin 8) (s : Fin 2) (q : PosShare TreeShare) (Y : Vec F S2048x4096 .bf16) {O : CellTallies nD τ sig ℕ} (hO : Above 1 O) {k : PUnit → Pr F α} :
    iprop(levAts L lv ∗ wFly c W h b s q ∗ At c wM fullShare (rHalf h).set (wPart W h Y b.val) ∗ Ow c O)
      ⊢ iprop((iprop(wFree c W s q ∗ At c wM fullShare (rHalf h).set (wPart W h Y (b.val + 1)) ∗ Ow c O) -∗ wpc c (k ⟨⟩) Q)
        -∗ wpc c (wFinish h b s >>= k) Q) := by
  unfold wFly wFinish
  simp only [Prog.lift, Prog.bind_op, Prog.bind_ret, bind_assoc]
  iintro ⟨#Hl, ⟨HF, Hr⟩, HM, HO⟩ Hk
  iapply (wp_own_wait c (sem := outS s) (srcw := wBlk h b) (dstw := stageM s) (n := NS) (NS_eq s) hO) $$ [HF HO]
  · isplitr; · iexact Hl
    isplitl [HF] <;> iassumption
  iintro ⟨⟨Hs, Hw⟩, Hv, HO⟩
  ihave Hs := (squeeze_at c sM fullShare (rStage s) (fun _ => rfl) squeezes_S1x256x2048_S256x2048 (wblkV W h b) (stg (wblkV W h b)) (stg_squeeze _ s)) $$ Hs
  iapply (wp_at_load c (m := sM) (r := rStage s) (Finset.Subset.refl _)) $$ Hs
  iintro Hs
  iapply (wp_at_load c (m := wM) (r := rBlk h b) (blk_sub h b)) $$ HM
  iintro HM
  ihave HM := (at_sdiff c wM fullShare (blk_sub h b) _).1 $$ HM
  icases HM with ⟨HB, HM⟩
  iapply (wp_at_store c (m := wM) (r := rBlk h b) (Y := wPart W h Y (b.val + 1)) ?hY) $$ HB
  case hY =>
    intro j
    refine Eq.trans ?_ (pay1_stg (wblkV W h b) s j).symm
    have h0 : ((((rBlk h b).emb j) 0).val) = 256 * b.val + (j 0).val := by rw [emb_val]; rfl
    have hj : (j 0).val < 256 := (j 0).isLt
    unfold wPart
    rw [if_pos (by omega)]
    rfl
  iintro HB
  ihave HM := (at_congr c (Y := wPart W h Y (b.val + 1)) ?hc) $$ HM
  case hc =>
    intro i hi
    rw [Finset.mem_sdiff, mem_half, mem_blk] at hi
    unfold wPart
    by_cases h1 : (i 0).val < 256 * b.val
    · rw [if_pos h1, if_pos (by omega)]
    · rw [if_neg h1, if_neg (by omega)]
  iapply Hk
  unfold wFree stageAny
  ihave Hw := (slice_at c wA q (rBlk h b) (fun _ => rfl) (wblkV W h b) W (fun _ => rfl)) $$ Hw
  isplitl [Hs Hv Hw Hr]
  · isplitl [Hs]
    · iexists _
      iapply (at_squeeze c sM fullShare (rStage s) (fun _ => rfl) squeezes_S1x256x2048_S256x2048 (stg (wblkV W h b))); iexact Hs
    isplitl [Hv]; · iexact Hv
    iapply (at_sdiff c wA q (Finset.subset_univ (rBlk h b).set) W).2
    isplitl [Hw] <;> iassumption
  isplitl [HB HM]
  · iapply (at_sdiff c wM fullShare (blk_sub h b) _).2
    isplitl [HB] <;> iassumption
  iexact HO

/-- One step of the cast: the next block's copy starts, the present block is cast. -/
theorem wp_wStep (h : Fin 2) (b b' : Fin 8) (s s' : Fin 2) (q q' : PosShare TreeShare) (Y : Vec F S2048x4096 .bf16) {O : CellTallies nD τ sig ℕ} (hO : Above 1 O) {k : PUnit → Pr F α} :
    iprop(levAts L lv ∗ (wFly c W h b s q ∗ wFree c W s' q' ∗ At c wM fullShare (rHalf h).set (wPart W h Y b.val)) ∗ Ow c O)
      ⊢ iprop((iprop((wFly c W h b' s' q' ∗ wFree c W s q ∗ At c wM fullShare (rHalf h).set (wPart W h Y (b.val + 1))) ∗ Ow c O) -∗ wpc c (k ⟨⟩) Q)
        -∗ wpc c (wStart h b' s' >>= fun _ => wFinish h b s >>= k) Q) := by
  iintro ⟨#Hl, ⟨HF, HW, HM⟩, HO⟩ Hk
  iapply (wp_wStart c W h b' s' q') $$ HW
  iintro HF'
  iapply (wp_wFinish c W h b s q Y hO) $$ [HF HM HO]
  · isplitr; · iexact Hl
    isplitl [HF]; · iexact HF
    isplitl [HM] <;> iassumption
  iintro ⟨HW, HM, HO⟩
  iapply Hk
  isplitl [HF' HW HM]
  · isplitl [HF']; · iexact HF'
    isplitl [HW] <;> iassumption
  iexact HO

/-- Casting a half. -/
theorem wp_wCast (h : Fin 2) (Y : Vec F S2048x4096 .bf16) (qa qb : PosShare TreeShare) {O : CellTallies nD τ sig ℕ} (hO : Above 1 O) {k : PUnit → Pr F α} :
    iprop(levAts L lv ∗ (wFree c W 0 qa ∗ wFree c W 1 qb) ∗ At c wM fullShare (rHalf h).set Y ∗ Ow c O)
      ⊢ iprop((iprop((wFree c W 0 qa ∗ wFree c W 1 qb) ∗ At c wM fullShare (rHalf h).set (wb W) ∗ Ow c O) -∗ wpc c (k ⟨⟩) Q)
        -∗ wpc c (wCast h >>= k) Q) := by
  unfold wCast
  simp only [bind_assoc]
  iintro ⟨#Hl, ⟨H0, H1⟩, HM, HO⟩ Hk
  ihave HM := (at_congr c (Y := wPart W h Y (0 : Fin 8).val) (fun i _ => (if_neg (by exact Nat.not_lt_zero _)).symm)) $$ HM
  iapply (wp_wStart c W h 0 0 qa) $$ H0
  iintro HF
  iapply (wp_wStep c W h 0 1 0 1 qa qb Y hO) $$ [HF H1 HM HO]
  · isplitr; · iexact Hl
    isplitr [HO]
    · isplitl [HF]; · iexact HF
      isplitl [H1] <;> iassumption
    iexact HO
  iintro ⟨HS, HO⟩
  iapply (wp_wStep c W h 1 2 1 0 qb qa Y hO) $$ [HS HO]
  · isplitr; · iexact Hl
    isplitl [HS]; · iexact HS
    iexact HO
  iintro ⟨HS, HO⟩
  iapply (wp_wStep c W h 2 3 0 1 qa qb Y hO) $$ [HS HO]
  · isplitr; · iexact Hl
    isplitl [HS]; · iexact HS
    iexact HO
  iintro ⟨HS, HO⟩
  iapply (wp_wStep c W h 3 4 1 0 qb qa Y hO) $$ [HS HO]
  · isplitr; · iexact Hl
    isplitl [HS]; · iexact HS
    iexact HO
  iintro ⟨HS, HO⟩
  iapply (wp_wStep c W h 4 5 0 1 qa qb Y hO) $$ [HS HO]
  · isplitr; · iexact Hl
    isplitl [HS]; · iexact HS
    iexact HO
  iintro ⟨HS, HO⟩
  iapply (wp_wStep c W h 5 6 1 0 qb qa Y hO) $$ [HS HO]
  · isplitr; · iexact Hl
    isplitl [HS]; · iexact HS
    iexact HO
  iintro ⟨HS, HO⟩
  iapply (wp_wStep c W h 6 7 0 1 qa qb Y hO) $$ [HS HO]
  · isplitr; · iexact Hl
    isplitl [HS]; · iexact HS
    iexact HO
  iintro ⟨⟨HF, H0, HM⟩, HO⟩
  iapply (wp_wFinish c W h 7 1 qb Y hO) $$ [HF HM HO]
  · isplitr; · iexact Hl
    isplitl [HF]; · iexact HF
    isplitl [HM]; · iexact HM
    iexact HO
  iintro ⟨H1, HM, HO⟩
  iapply Hk
  isplitl [H0 H1]
  · isplitl [H0] <;> iassumption
  isplitl [HM]
  · iapply (at_congr c (X := wPart W h Y ((7 : Fin 8).val + 1)) (fun i _ => if_pos (show (i 0).val < 2048 from (i 0).isLt))); iexact HM
  iexact HO

/-! ## A row block of `x` -/

variable (X : Vec F S8192x2048 .f32)

/-- What a fetch of a row block of `x` uses: `x` itself, the buffer it lands in, its semaphore. -/
def xFree : sProp (MT nD τ sig ℕ (Elt F) ℕ UU ℕ) :=
  iprop(At c xA fullShare Finset.univ X ∗ (∃ V : Vec F S256x2048 .f32, owns (c : Thread nD τ) xM fullShare V) ∗ semVal ((c : Thread nD τ), SemLoc.dma copyS) 0)

theorem NX_eq : (xM : Memref sig .tc .vmem S256x2048 .f32).view.dmaCredit = NS := rfl

theorem wp_xFetch (o : XOff) (h : Fin 2) {O : CellTallies nD τ sig ℕ} (hO : Above 1 O) {k : Vec F S256x2048 .f32 × Vec F S2048x2048 .bf16 → Pr F α} :
    iprop(levAts L lv ∗ xFree c X ∗ At c wM fullShare (rHalf h).set (wb W) ∗ Ow c O)
      ⊢ iprop((iprop(xFree c X ∗ At c wM fullShare (rHalf h).set (wb W) ∗ Ow c O) -∗ wpc c (k (xrow X o, whalf W h)) Q)
        -∗ wpc c (xFetch o h >>= k) Q) := by
  unfold xFree xFetch
  simp only [Prog.lift, Prog.bind_op, Prog.bind_ret, bind_assoc, Prog.pure_eq_ret]
  iintro ⟨#Hl, ⟨HX, ⟨%V, HV⟩, Hv⟩, HM, HO⟩ Hk
  ihave HX := (at_sdiff c xA fullShare (Finset.subset_univ (Rect.unit (s := S8192x2048) o.off S256x2048.size o.inb).set) X).1 $$ HX
  icases HX with ⟨HX, Hr⟩
  ihave HX := (at_slice c xA fullShare (Rect.unit (s := S8192x2048) o.off S256x2048.size o.inb) (fun _ => rfl) X) $$ HX
  iapply (wp_own_dma c (src := xBlk o) (dst := xM) (sm := copyS) (V := xrow X o) (U := V) (q := fullShare) NS NX_eq NS_pos) $$ [HX HV Hv]
  · isplitl [HX]; · iexact HX
    isplitl [HV] <;> iassumption
  iintro HF
  iapply (wp_own_wait c (sem := copyS) (srcw := xBlk o) (dstw := xM) (n := NS) NX_eq hO) $$ [HF HO]
  · isplitr; · iexact Hl
    isplitl [HF] <;> iassumption
  iintro ⟨⟨HV, HX⟩, Hv, HO⟩
  ihave HV := (owns_at c xM fullShare (xrow X o)) $$ HV
  iapply (wp_at_load c (m := xM) (r := rX) (Finset.subset_univ _)) $$ HV
  iintro HV
  iapply (wp_at_load c (m := wM) (r := rHalf h) (Finset.Subset.refl _)) $$ HM
  iintro HM
  rw [show (fun j => xrow X o (rX.emb j)) = xrow X o from funext fun j => congrArg (xrow X o) (rX_emb j)]
  ihave HX := (slice_at c xA fullShare (Rect.unit (s := S8192x2048) o.off S256x2048.size o.inb) (fun _ => rfl) (xrow X o) X (fun _ => rfl)) $$ HX
  iapply Hk
  isplitr [HM HO]
  · isplitl [HX Hr]
    · iapply (at_sdiff c xA fullShare (Finset.subset_univ (Rect.unit (s := S8192x2048) o.off S256x2048.size o.inb).set) X).2
      isplitl [HX] <;> iassumption
    isplitl [HV]
    · iexists _
      iapply (at_owns c xM fullShare (xrow X o)); iexact HV
    iexact Hv
  isplitl [HM] <;> iassumption

end Pieces

end Cert.KernelIdeal.Rs

end
-- ==== Proof.Ideal.Build.lean ====
/-
  The build loops: a slot filled block by block with a device's product, alone or added to what the slot held.
-/
module

public import proofs.«01_k».proof.Proof.Ideal.Local

@[expose] public section

set_option maxRecDepth 65536

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ

/-- A slot whose first `n` row blocks hold those of `V` and whose others hold what they did. -/
def slotPart (V : Vec F S1024x2048 .bf16) (V₀ : Vec F S1024x2048 .bf16) (n : ℕ) : Vec F S2x2x1024x2048 .bf16 :=
  fun i => if (i 2).val < 256 * n then cslot V i else cslot V₀ i

theorem rows_emb2 (l s : Fin 2) (b : Fin 4) (j : S1x1x256x2048.Idx) : (((rRows l s b).emb j) 2).val = 256 * b.val + (j 2).val := by rw [emb_val]; rfl

theorem slotPart_new (V V₀ : Vec F S1024x2048 .bf16) (l s : Fin 2) (b : Fin 4) (j : S1x1x256x2048.Idx) :
    slotPart V V₀ (b.val + 1) ((rRows l s b).emb j) = rowsOf V b j := by
  have h := rows_emb2 l s b j
  have hj : (j 2).val < 256 := (j 2).isLt
  unfold slotPart
  rw [if_pos (by omega), cslot_rows]
theorem slotPart_old (V V₀ : Vec F S1024x2048 .bf16) (l s : Fin 2) (b : Fin 4) (j : S1x1x256x2048.Idx) :
    slotPart V V₀ b.val ((rRows l s b).emb j) = rowsOf V₀ b j := by
  have h := rows_emb2 l s b j
  unfold slotPart
  rw [if_neg (by omega), cslot_rows]
theorem slotPart_rest (V V₀ : Vec F S1024x2048 .bf16) (l s : Fin 2) (b : Fin 4) (i : S2x2x1024x2048.Idx) (hi : i ∈ (rSlot l s).set \ (rRows l s b).set) :
    slotPart V V₀ b.val i = slotPart V V₀ (b.val + 1) i := by
  rw [Finset.mem_sdiff, mem_slot, mem_rows] at hi
  unfold slotPart
  by_cases h1 : (i 2).val < 256 * b.val
  · rw [if_pos h1, if_pos (by omega)]
  · rw [if_neg h1, if_neg (by omega)]
theorem slotPart_zero (V V₀ : Vec F S1024x2048 .bf16) : slotPart V V₀ 0 = cslot V₀ := funext fun i => if_neg (Nat.not_lt_zero _)
theorem slotPart_four (V V₀ : Vec F S1024x2048 .bf16) : slotPart V V₀ 4 = cslot V := funext fun i => if_pos (show (i 2).val < 1024 from (i 2).isLt)

/-- A program that returns needs what is asked of its value. -/
theorem wpc_ret (c : Dev nD) {α : Type} {a : α} {Q : α → sProp 𝕄} : Q a ⊢ wpc c (Prog.ret a) Q := by
  unfold wpc
  rw [wp_ret]
  exact fupd_intro

section Build
variable (c : Dev nD) {α : Type} {Q : α → sProp (MT nD τ sig ℕ (Elt F) ℕ UU ℕ)}
variable (W : Vec F S2048x4096 .f32) (X : Vec F S8192x2048 .f32)

/-- What a build loop works with: `x`, the cast half, the slot, and what the device owes. -/
def bSt (di l s : Fin 2) (Y : Vec F S2x2x1024x2048 .bf16) (O : CellTallies nD τ sig ℕ) : sProp (MT nD τ sig ℕ (Elt F) ℕ UU ℕ) :=
  iprop(xFree c X ∗ At c wM fullShare (rHalf di).set (wb W) ∗ Ow c O ∗ At c (comm di) fullShare (rSlot l s).set Y)

theorem wp_bFirst (di l s : Fin 2) (t : T4) (o : XOff) (V V₀ : Vec F S1024x2048 .bf16) (hV : rowsOf V (q4 t) = k0_pay9 (xrow X o) (whalf W di))
    {O : CellTallies nD τ sig ℕ} (hO : Above 1 O) {Q : Unit → sProp (MT nD τ sig ℕ (Elt F) ℕ UU ℕ)} :
    iprop(levAts L lv ∗ bSt c W X di l s (slotPart V V₀ (q4 t).val) O)
      ⊢ iprop((bSt c W X di l s (slotPart V V₀ ((q4 t).val + 1)) O -∗ Q ⟨⟩) -∗ wpc c (bFirst di o (slotOff l s t)) Q) := by
  unfold bSt bFirst
  iintro ⟨#Hl, HX, HM, HO, HS⟩ Hk
  iapply (wp_xFetch c W X o di hO) $$ [HX HM HO]
  · isplitr; · iexact Hl
    isplitl [HX]; · iexact HX
    isplitl [HM] <;> iassumption
  iintro ⟨HX, HM, HO⟩
  simp only [Prog.lift, Prog.bind_op, Prog.bind_ret, bind_assoc, Prog.pure_eq_ret]
  ihave HS := (at_sdiff c (comm di) fullShare (rows_sub l s (q4 t)) _).1 $$ HS
  icases HS with ⟨HB, HS⟩
  iapply (wp_at_load c (m := comm di) (r := rRows l s (q4 t)) (Finset.Subset.refl _)) $$ HB
  iintro HB
  iapply (wp_at_store c (m := comm di) (r := rRows l s (q4 t)) (Y := slotPart V V₀ ((q4 t).val + 1))
    (fun j => (slotPart_new V V₀ l s (q4 t) j).trans (congrFun hV j))) $$ HB
  iintro HB
  ihave HS := (at_congr c (slotPart_rest V V₀ l s (q4 t))) $$ HS
  iapply (wpc_ret c)
  iapply Hk
  isplitl [HX]; · iexact HX
  isplitl [HM]; · iexact HM
  isplitl [HO]; · iexact HO
  iapply (at_sdiff c (comm di) fullShare (rows_sub l s (q4 t)) _).2
  isplitl [HB] <;> iassumption

theorem wp_bNext (di l s : Fin 2) (t : T4) (o : XOff) (V V₀ : Vec F S1024x2048 .bf16) (hV : rowsOf V (q4 t) = k0_pay21 (xrow X o) (whalf W di) (rowsOf V₀ (q4 t)))
    {O : CellTallies nD τ sig ℕ} (hO : Above 1 O) {Q : Unit → sProp (MT nD τ sig ℕ (Elt F) ℕ UU ℕ)} :
    iprop(levAts L lv ∗ bSt c W X di l s (slotPart V V₀ (q4 t).val) O)
      ⊢ iprop((bSt c W X di l s (slotPart V V₀ ((q4 t).val + 1)) O -∗ Q ⟨⟩) -∗ wpc c (bNext di o (slotOff l s t)) Q) := by
  unfold bSt bNext
  iintro ⟨#Hl, HX, HM, HO, HS⟩ Hk
  iapply (wp_xFetch c W X o di hO) $$ [HX HM HO]
  · isplitr; · iexact Hl
    isplitl [HX]; · iexact HX
    isplitl [HM] <;> iassumption
  iintro ⟨HX, HM, HO⟩
  simp only [Prog.lift, Prog.bind_op, Prog.bind_ret, bind_assoc, Prog.pure_eq_ret]
  ihave HS := (at_sdiff c (comm di) fullShare (rows_sub l s (q4 t)) _).1 $$ HS
  icases HS with ⟨HB, HS⟩
  iapply (wp_at_load c (m := comm di) (r := rRows l s (q4 t)) (Finset.Subset.refl _)) $$ HB
  iintro HB
  iapply (wp_at_load c (m := comm di) (r := rRows l s (q4 t)) (Finset.Subset.refl _)) $$ HB
  iintro HB
  have hR : (fun j => slotPart V V₀ (q4 t).val ((rRows l s (q4 t)).emb j)) = rowsOf V₀ (q4 t) := funext fun j => slotPart_old V V₀ l s (q4 t) j
  iapply (wp_at_store c (m := comm di) (r := rRows l s (q4 t)) (Y := slotPart V V₀ ((q4 t).val + 1))
    (fun j => (slotPart_new V V₀ l s (q4 t) j).trans (congrFun (hV.trans (congrArg (k0_pay21 (xrow X o) (whalf W di)) hR.symm)) j))) $$ HB
  iintro HB
  ihave HS := (at_congr c (slotPart_rest V V₀ l s (q4 t))) $$ HS
  iapply (wpc_ret c)
  iapply Hk
  isplitl [HX]; · iexact HX
  isplitl [HM]; · iexact HM
  isplitl [HO]; · iexact HO
  iapply (at_sdiff c (comm di) fullShare (rows_sub l s (q4 t)) _).2
  isplitl [HB] <;> iassumption

/-- The first build of a slot. -/
theorem wp_buildFirst (di l s : Fin 2) (o : T4 → XOff) (V V₀ : Vec F S1024x2048 .bf16)
    (hV : ∀ t, rowsOf V (q4 t) = k0_pay9 (xrow X (o t)) (whalf W di)) {O : CellTallies nD τ sig ℕ} (hO : Above 1 O) {k : Unit → Pr F α} :
    iprop(levAts L lv ∗ bSt c W X di l s (cslot V₀) O)
      ⊢ iprop((bSt c W X di l s (cslot V) O -∗ wpc c (k ⟨⟩) Q) -∗ wpc c (buildFirst di o (fun t => slotOff l s t) >>= k) Q) := by
  unfold buildFirst
  iintro ⟨#Hl, HB⟩ Hk
  iapply (Scf.wp_for_bind frame (wpE (defs₀ (F := F)) 𝒱₀ (c : Thread nD τ) none) Set.univ _ _ _ k0_t1_ok ()
    (fun (t : T4) (_ : Unit) => bFirst di (o t) (slotOff l s t)) (fun n _ => iprop(levAts L lv ∗ bSt c W X di l s (slotPart V V₀ n) O)) ?hb) $$ [HB]
  case hb =>
    intro t u
    iintro ⟨#Hl, HB⟩
    iapply (wp_bFirst c W X di l s t (o t) V V₀ (hV t) hO) $$ [HB]
    · isplitr; · iexact Hl
      iexact HB
    iintro HB
    isplitr; · iexact Hl
    iexact HB
  · isplitr; · iexact Hl
    rw [slotPart_zero]; iexact HB
  iintro %u ⟨-, HB⟩
  iapply Hk
  rw [show Scf.trips k0_t1_loop.lb k0_t1_loop.ub k0_t1_loop.st = 4 from trips4, slotPart_four]
  iexact HB

/-- A later build: upon what the slot holds. -/
theorem wp_buildNext (di l s : Fin 2) (o : T4 → XOff) (V V₀ : Vec F S1024x2048 .bf16)
    (hV : ∀ t, rowsOf V (q4 t) = k0_pay21 (xrow X (o t)) (whalf W di) (rowsOf V₀ (q4 t))) {O : CellTallies nD τ sig ℕ} (hO : Above 1 O) {k : Unit → Pr F α} :
    iprop(levAts L lv ∗ bSt c W X di l s (cslot V₀) O)
      ⊢ iprop((bSt c W X di l s (cslot V) O -∗ wpc c (k ⟨⟩) Q) -∗ wpc c (buildNext di o (fun t => slotOff l s t) >>= k) Q) := by
  unfold buildNext
  iintro ⟨#Hl, HB⟩ Hk
  iapply (Scf.wp_for_bind frame (wpE (defs₀ (F := F)) 𝒱₀ (c : Thread nD τ) none) Set.univ _ _ _ k0_t1_ok ()
    (fun (t : T4) (_ : Unit) => bNext di (o t) (slotOff l s t)) (fun n _ => iprop(levAts L lv ∗ bSt c W X di l s (slotPart V V₀ n) O)) ?hb) $$ [HB]
  case hb =>
    intro t u
    iintro ⟨#Hl, HB⟩
    iapply (wp_bNext c W X di l s t (o t) V V₀ (hV t) hO) $$ [HB]
    · isplitr; · iexact Hl
      iexact HB
    iintro HB
    isplitr; · iexact Hl
    iexact HB
  · isplitr; · iexact Hl
    rw [slotPart_zero]; iexact HB
  iintro %u ⟨-, HB⟩
  iapply Hk
  rw [show Scf.trips k0_t1_loop.lb k0_t1_loop.ub k0_t1_loop.st = 4 from trips4, slotPart_four]
  iexact HB

end Build

end Cert.KernelIdeal.Rs

end
-- ==== Proof.Ideal.Remote.lean ====
/-
  The waits and payments between devices: an arrival, a completed send, a credit taken, a credit given, a send.
-/
module

public import proofs.«01_k».proof.Proof.Ideal.Local

@[expose] public section

set_option maxRecDepth 65536

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ

/-! ## What every step shares -/

section Steps
variable (X : Dev nD → Vec F S8192x2048 .f32) (W : Dev nD → Vec F S2048x4096 .f32) (K : Dev nD × Kd → ℕ)

/-- What stays true throughout: the levels, the invariants of all cells, and that every cell has reached round 0. -/
def ctx : sProp (MT nD τ sig ℕ (Elt F) ℕ UU ℕ) :=
  iprop(levAts L lv ∗ bigSep Finset.univ (fun ck => cellInv ER (Rd X W) (K ck) (kcell ck)) ∗ bigSep Finset.univ (fun ck : Dev nD × Kd => reached ER (kcell ck) 0))

instance ctx_persistent : BI.Persistent (ctx X W K) := by unfold ctx; infer_instance

theorem ctx_lev : ctx X W K ⊢ levAts L lv := by unfold ctx; iintro ⟨#H, -⟩; iexact H
theorem ctx_inv (c : Dev nD) (k : Kd) : ctx X W K ⊢ cellInv ER (Rd X W) (K (c, k)) (kcell (c, k)) := by
  have h : bigSep Finset.univ (fun ck => cellInv ER (Rd X W) (K ck) (kcell ck)) ⊢ cellInv ER (Rd X W) (K (c, k)) (kcell (c, k)) := BI.bigSep_elim (Finset.mem_univ (c, k))
  unfold ctx; iintro ⟨-, #H, -⟩
  iapply h; iexact H
theorem ctx_reached (c : Dev nD) (k : Kd) : ctx X W K ⊢ reached ER (kcell (c, k)) 0 := by
  have h : (bigSep Finset.univ (fun ck : Dev nD × Kd => reached ER (kcell ck) 0) : sProp 𝕄) ⊢ reached ER (kcell (c, k)) 0 := BI.bigSep_elim (Finset.mem_univ (c, k))
  unfold ctx; iintro ⟨-, -, #H⟩
  iapply h; iexact H

variable (c : Dev nD) {α : Type} {Q : α → sProp (MT nD τ sig ℕ (Elt F) ℕ UU ℕ)}

theorem kd_cred (di l : Fin 2) (h : Fin 3) : kduties (.cred di l) h.val = {false} := if_pos h.isLt
theorem kd_send (di l : Fin 2) : ∀ h : Fin 3, kduties (.send di l (sl h)) (h.val / 2) = {false} := fun h =>
  if_pos ((by decide : ∀ h : Fin 3, 2 * (h.val / 2) + (sl h).val < 3) h)
theorem kd_recv (di l : Fin 2) : ∀ h : Fin 3, kduties (.recv di l (ot h)) (h.val / 2) = {false} := fun h =>
  if_pos ((by decide : ∀ h : Fin 3, 2 * (h.val / 2) + (1 - (ot h).val) < 3) h)
theorem kp_cred (di l : Fin 2) (h : Fin 3) : kpay X W (.cred di l) c h.val = credPay c di l h := by
  show credPay c di l (hopR h.val) = _
  rw [(by decide : ∀ h : Fin 3, hopR h.val = h) h]
theorem kp_send (di l : Fin 2) (h : Fin 3) : kpay X W (.send di l (sl h)) c (h.val / 2) = sendPay c di l h := by
  show sendPay c di l (hopR (2 * (h.val / 2) + (sl h).val)) = _
  rw [(by decide : ∀ h : Fin 3, hopR (2 * (h.val / 2) + (sl h).val) = h) h]
theorem kp_recv (di l : Fin 2) (h : Fin 3) : kpay X W (.recv di l (ot h)) c (h.val / 2) = recvPay X W c di l h := by
  show recvPay X W c di l (hopR (2 * (h.val / 2) + (1 - (ot h).val))) = _
  rw [(by decide : ∀ h : Fin 3, hopR (2 * (h.val / 2) + (1 - (ot h).val)) = h) h]

/-! The cells by name: the duty, the amount, what a wait expects and gets. -/

theorem cell_bar : kcell (c, .bar) = barCell c := rfl
theorem cell_cred (di l : Fin 2) : kcell (c, .cred di l) = credCell c di l := rfl
theorem cell_send (di l s : Fin 2) : kcell (c, .send di l s) = sendCell c di l s := rfl
theorem cell_recv (di l s : Fin 2) : kcell (c, .recv di l s) = recvCell c di l s := rfl

theorem inv_bar : ctx X W K ⊢ cellInv ER (Rd X W) (K (c, .bar)) (barCell c) := by rw [← cell_bar]; exact ctx_inv X W K c .bar
theorem inv_cred (di l : Fin 2) : ctx X W K ⊢ cellInv ER (Rd X W) (K (c, .cred di l)) (credCell c di l) := by rw [← cell_cred]; exact ctx_inv X W K c _
theorem inv_send (di l s : Fin 2) : ctx X W K ⊢ cellInv ER (Rd X W) (K (c, .send di l s)) (sendCell c di l s) := by rw [← cell_send]; exact ctx_inv X W K c _
theorem inv_recv (di l s : Fin 2) : ctx X W K ⊢ cellInv ER (Rd X W) (K (c, .recv di l s)) (recvCell c di l s) := by rw [← cell_recv]; exact ctx_inv X W K c _

theorem duty_cred (di l : Fin 2) (h : Fin 3) : false ∈ (Rd X W).duties (credCell c di l) h.val := by
  rw [← cell_cred, duties_k, kd_cred]; exact Finset.mem_singleton_self _
theorem duty_send (di l : Fin 2) (h : Fin 3) : false ∈ (Rd X W).duties (sendCell c di l (sl h)) (h.val / 2) := by
  rw [← cell_send, duties_k, kd_send]; exact Finset.mem_singleton_self _
theorem duty_recv (di l : Fin 2) (h : Fin 3) : false ∈ (Rd X W).duties (recvCell c di l (ot h)) (h.val / 2) := by
  rw [← cell_recv, duties_k, kd_recv]; exact Finset.mem_singleton_self _
theorem amt_cred (di l : Fin 2) (r : ℕ) (d : Bool) : (Rd X W).amount (credCell c di l) r d = (1#32 : BitVec 32).toNat := by rw [← cell_cred, amount_k]; rfl
theorem amt_send (di l s : Fin 2) (r : ℕ) (d : Bool) : (Rd X W).amount (sendCell c di l s) r d = N := by rw [← cell_send, amount_k]; rfl
theorem amt_recv (di l s : Fin 2) (r : ℕ) (d : Bool) : (Rd X W).amount (recvCell c di l s) r d = N := by rw [← cell_recv, amount_k]; rfl
theorem exp_cred (di l : Fin 2) (h : Fin 3) : 0 + (1#32 : BitVec 32).toNat = (Rd X W).expect (credCell c di l) h.val := by
  rw [← cell_cred, expect_one X W c _ _ (kd_cred di l h)]; rfl
theorem exp_send (di l : Fin 2) (h : Fin 3) : 0 + (slotM di l (sl h) : Memref sig .tc .vmem S1024x2048 .bf16).view.dmaCredit = (Rd X W).expect (sendCell c di l (sl h)) (h.val / 2) := by
  rw [← cell_send, expect_one X W c _ _ (kd_send di l h), Nat.zero_add, N_eq]; rfl
theorem exp_recv (di l : Fin 2) (h : Fin 3) : 0 + (slotM di l (ot h) : Memref sig .tc .vmem S1024x2048 .bf16).view.dmaCredit = (Rd X W).expect (recvCell c di l (ot h)) (h.val / 2) := by
  rw [← cell_recv, expect_one X W c _ _ (kd_recv di l h), Nat.zero_add, N_eq]; rfl
theorem pay_cred (di l : Fin 2) (h : Fin 3) (d : Bool) : (Rd X W).payload (credCell c di l) h.val d = credPay c di l h := by
  rw [← cell_cred, payload_k, kp_cred]
theorem pay_send (di l : Fin 2) (h : Fin 3) (d : Bool) : (Rd X W).payload (sendCell c di l (sl h)) (h.val / 2) d = sendPay c di l h := by
  rw [← cell_send, payload_k, kp_send]
theorem pay_recv (di l : Fin 2) (h : Fin 3) (d : Bool) : (Rd X W).payload (recvCell c di l (ot h)) (h.val / 2) d = recvPay X W c di l h := by
  rw [← cell_recv, payload_k, kp_recv]
theorem rest_cred (di l : Fin 2) (h : Fin 3) :
    bigSep ((Rd X W).duties (credCell c di l) h.val \ ∅) (fun d => (Rd X W).payload (credCell c di l) h.val d) = credPay c di l h := by
  rw [← cell_cred, rest_one X W c _ _ (kd_cred di l h), kp_cred]
theorem rest_send (di l : Fin 2) (h : Fin 3) :
    bigSep ((Rd X W).duties (sendCell c di l (sl h)) (h.val / 2) \ ∅) (fun d => (Rd X W).payload (sendCell c di l (sl h)) (h.val / 2) d) = sendPay c di l h := by
  rw [← cell_send, rest_one X W c _ _ (kd_send di l h), kp_send]
theorem rest_recv (di l : Fin 2) (h : Fin 3) :
    bigSep ((Rd X W).duties (recvCell c di l (ot h)) (h.val / 2) \ ∅) (fun d => (Rd X W).payload (recvCell c di l (ot h)) (h.val / 2) d) = recvPay X W c di l h := by
  rw [← cell_recv, rest_one X W c _ _ (kd_recv di l h), kp_recv]

theorem N_amt (di l s : Fin 2) (q : DmaSem sig) : (slotM di l s : Memref sig .tc .vmem S1024x2048 .bf16).view.amount (SemLoc.dma q) = N := rfl

/-! ## The waits -/

/-- Waiting for the arrival of hop `h`: the slot with what the upstream neighbour built, and that it has taken its credit. -/
theorem wp_recvWait (di l : Fin 2) (h : Fin 3) (s r : Fin 2) (hr : ot h = r) {O : CellTallies nD τ sig ℕ} (hO : Above (2 * kk h l di + 4) O) {k : PUnit → Pr F α} :
    iprop(ctx X W K ∗ cred (tallyAt (recvCell c di l r) (2 * kk h l di + 3) N) ∗ Ow c O ∗ atPos ER (recvCell c di l r) (h.val / 2) ∅ 0)
      ⊢ iprop((iprop(Ow c O ∗ atPos ER (recvCell c di l r) (h.val / 2 + 1) ∅ 0 ∗ reached ER (recvCell c di l r) (h.val / 2 + 1)
            ∗ slotIs c di l r (built X W di l h (upD di c)) ∗ reached ER (credCell (upD di c) di l) (h.val + 1)) -∗ wpc c (k ⟨⟩) Q)
          -∗ wpc c (recvWait di l s r >>= k) Q) := by
  subst hr
  unfold recvWait Ow
  simp only [Prog.lift, Prog.bind_op, Prog.bind_ret]
  iintro ⟨#Hc, Hcr, ⟨%V, HO⟩, Hat⟩ Hk
  have hk := exp_recv X W c di l h
  rw [← N_eq di l (ot h)]
  have hi : 2 * kk h l di + 3 < 64 := by have := kk_lt h l di; omega
  iapply (Rounds.wp_wait_rest_token 𝒱₀ ER (Rd X W) (c : Thread nD τ) none (sm := SemLoc.dma (recvS di l (ot h))) (κ := K (c, .recv di l (ot h)))
      (wpE_waitDma2_eq 𝒱₀ (c : Thread nD τ) none Set.univ) (Set.mem_univ _) (2 * kk h l di + 3) (O := O) (W := V) (R := h.val / 2) (m := 0) (T := ∅) hk) $$ [Hcr HO Hat]
  · isplitr; · iapply (inv_recv X W K c di l (ot h)); iexact Hc
    isplitl [Hcr]; · iexact Hcr
    isplitl [HO]; · iexact HO
    isplitr
    · iapply (mayWait_above c _ (2 * kk h l di + 3) hi hO); iapply (ctx_lev X W K); iexact Hc
    iexact Hat
  iintro ⟨HO, Hat, Hre, Hp⟩
  ihave Hp := (Entails.of_eq (rest_recv X W c di l h)) $$ Hp
  unfold recvPay
  icases Hp with ⟨Hs, Hr⟩
  iapply Hk
  isplitl [HO]; · iexists _; iexact HO
  isplitl [Hat]; · iexact Hat
  isplitl [Hre]; · iexact Hre
  isplitl [Hs]; · iexact Hs
  iexact Hr

/-- Waiting until the send of hop `h` has left its slot. -/
theorem wp_sendWait (di l : Fin 2) (h : Fin 3) (s r : Fin 2) (hs : sl h = s) {O : CellTallies nD τ sig ℕ} (hO : Above 1 O) {k : PUnit → Pr F α} :
    iprop(ctx X W K ∗ cred (tallyAt (sendCell c di l s) 0 N) ∗ Ow c O ∗ atPos ER (sendCell c di l s) (h.val / 2) ∅ 0)
      ⊢ iprop((iprop(Ow c O ∗ atPos ER (sendCell c di l s) (h.val / 2 + 1) ∅ 0 ∗ reached ER (sendCell c di l s) (h.val / 2 + 1) ∗ slotAny c di l s) -∗ wpc c (k ⟨⟩) Q)
          -∗ wpc c (sendWait di l s r >>= k) Q) := by
  subst hs
  unfold sendWait Ow
  simp only [Prog.lift, Prog.bind_op, Prog.bind_ret]
  iintro ⟨#Hc, Hcr, ⟨%V, HO⟩, Hat⟩ Hk
  have hk := exp_send X W c di l h
  rw [← N_eq di l (sl h)]
  iapply (Rounds.wp_wait_rest_token 𝒱₀ ER (Rd X W) (c : Thread nD τ) none (sm := SemLoc.dma (sendS di l (sl h))) (κ := K (c, .send di l (sl h)))
      (wpE_waitDma2_eq 𝒱₀ (c : Thread nD τ) none Set.univ) (Set.mem_univ _) 0 (O := O) (W := V) (R := h.val / 2) (m := 0) (T := ∅) hk) $$ [Hcr HO Hat]
  · isplitr; · iapply (inv_send X W K c di l (sl h)); iexact Hc
    isplitl [Hcr]; · iexact Hcr
    isplitl [HO]; · iexact HO
    isplitr
    · iapply (mayWait_above c _ 0 (by decide) hO); iapply (ctx_lev X W K); iexact Hc
    iexact Hat
  iintro ⟨HO, Hat, Hre, Hp⟩
  ihave Hp := (Entails.of_eq (rest_send X W c di l h)) $$ Hp
  unfold sendPay
  iapply Hk
  isplitl [HO]; · iexists _; iexact HO
  isplitl [Hat]; · iexact Hat
  isplitl [Hre]; · iexact Hre
  iexact Hp

/-- Taking the credit of hop `h`: the downstream neighbour's slot, free. -/
theorem wp_creditTake (di l : Fin 2) (h : Fin 3) (r : Fin 2) (hr : ot h = r) {O : CellTallies nD τ sig ℕ} (hO : Above (2 * kk h l di + 3) O) {k : PUnit → Pr F α} :
    iprop(ctx X W K ∗ cred (tallyAt (credCell c di l) (2 * kk h l di + 2) 1) ∗ Ow c O ∗ atPos ER (credCell c di l) h.val ∅ 0)
      ⊢ iprop((iprop(Ow c O ∗ atPos ER (credCell c di l) (h.val + 1) ∅ 0 ∗ reached ER (credCell c di l) (h.val + 1)
            ∗ slotAny (dnD di c) di l r ∗ reached ER (recvCell (dnD di c) di l r) (h.val / 2)) -∗ wpc c (k ⟨⟩) Q)
          -∗ wpc c (creditTake di l >>= k) Q) := by
  subst hr
  unfold creditTake Ow
  simp only [semWaitWord, Prog.lift, Prog.bind_op, Prog.bind_ret]
  iintro ⟨#Hc, Hcr, ⟨%V, HO⟩, Hat⟩ Hk
  have hk := exp_cred X W c di l h
  have hi : 2 * kk h l di + 2 < 64 := by have := kk_lt h l di; omega
  iapply (Rounds.wp_wait_rest_token 𝒱₀ ER (Rd X W) (c : Thread nD τ) none (sm := SemLoc.reg (credS di l)) (k' := 1) (κ := K (c, .cred di l))
      (wpE_semWait_eq 𝒱₀ (c : Thread nD τ) none Set.univ) (Set.mem_univ _) (2 * kk h l di + 2) (O := O) (W := V) (R := h.val) (m := 0) (T := ∅) hk) $$ [Hcr HO Hat]
  · isplitr; · iapply (inv_cred X W K c di l); iexact Hc
    isplitl [Hcr]; · iexact Hcr
    isplitl [HO]; · iexact HO
    isplitr
    · iapply (mayWait_above c _ (2 * kk h l di + 2) hi hO); iapply (ctx_lev X W K); iexact Hc
    iexact Hat
  iintro ⟨HO, Hat, Hre, Hp⟩
  ihave Hp := (Entails.of_eq (rest_cred X W c di l h)) $$ Hp
  unfold credPay
  icases Hp with ⟨Hs, Hr⟩
  iapply Hk
  isplitl [HO]; · iexists _; iexact HO
  isplitl [Hat]; · iexact Hat
  isplitl [Hre]; · iexact Hre
  isplitl [Hs]; · iexact Hs
  iexact Hr

/-! ## The payments -/

/-- Handing the upstream neighbour the credit of hop `h`: one's own free slot. -/
theorem wp_creditGive (di l : Fin 2) (h : Fin 3) (r : Fin 2) (hr : ot h = r) {O : CellTallies nD τ sig ℕ} {k : PUnit → Pr F α} :
    iprop(ctx X W K ∗ dutyTok ER (credCell (upD di c) di l) h.val false ∗ reached ER (credCell (upD di c) di l) h.val
        ∗ slotAny c di l r ∗ reached ER (recvCell c di l r) (h.val / 2) ∗ Ow c (O + credT c h l di))
      ⊢ iprop((Ow c O -∗ wpc c (k ⟨⟩) Q) -∗ wpc c (creditGive di l (upD di c) >>= k) Q) := by
  subst hr
  unfold creditGive Ow
  simp only [semSignalWord, Prog.lift, Prog.bind_op, Prog.bind_ret]
  iintro ⟨#Hc, Ht, Hre, Hs, Hr, ⟨%V, HO⟩⟩ Hk
  have hd := duty_cred X W (upD di c) di l h
  have ha := amt_cred X W (upD di c) di l h.val false
  iapply (Rounds.wp_signal 𝒱₀ ER (Rd X W) (c : Thread nD τ) none (dst := (upD di c : Thread nD τ)) (sem := credS di l) (κ := K (upD di c, .cred di l))
      (d := false) hd ha (2 * kk h l di + 2) O (O₀ := O + credT c h l di) rfl) $$ [Ht Hre Hs Hr HO]
  · isplitr; · iapply (inv_cred X W K (upD di c) di l); iexact Hc
    isplitl [HO]; · iexact HO
    isplitl [Ht]; · iexact Ht
    isplitl [Hs Hr]
    · iapply (Entails.of_eq (pay_cred X W (upD di c) di l h false).symm)
      unfold credPay; rw [dn_up]
      isplitl [Hs] <;> iassumption
    iexact Hre
  iintro HO
  iapply Hk
  iexists _; iexact HO

/-- The send of hop `h`, with that the sender's credit cell has come to round `h + 1`. -/
theorem wp_sendOff (di l : Fin 2) (h : Fin 3) (s r : Fin 2) (hs : sl h = s) (hr : ot h = r) (n : Dev nD) (hn : n = dnD di c) {O : CellTallies nD τ sig ℕ} {k : PUnit → Pr F α} :
    iprop(ctx X W K ∗ slotIs c di l s (built X W di l h c) ∗ slotAny n di l r ∗ reached ER (credCell c di l) (h.val + 1)
        ∗ Ow c (O + sendT c h l di) ∗ dutyTok ER (sendCell c di l s) (h.val / 2) false ∗ reached ER (sendCell c di l s) (h.val / 2)
        ∗ dutyTok ER (recvCell n di l r) (h.val / 2) false ∗ reached ER (recvCell n di l r) (h.val / 2))
      ⊢ iprop((iprop(cred (tallyAt (sendCell c di l s) 0 N) ∗ Ow c O) -∗ wpc c (k ⟨⟩) Q)
          -∗ wpc c (sendOff di l s r n >>= k) Q) := by
  subst hs hr hn
  unfold sendOff Ow slotIs slotAny owns
  simp only [Prog.lift, Prog.bind_op, Prog.bind_ret]
  iintro ⟨#Hc, ⟨%f, %hf, Hs⟩, ⟨%U, %g, %hg, Hd⟩, Hcr, ⟨%V, HO⟩, Ht1, Hr1, Ht2, Hr2⟩ Hk
  have hd₁ := duty_send X W c di l h
  have hd₂ := duty_recv X W (dnD di c) di l h
  have ha₁ := amt_send X W c di l (sl h) (h.val / 2) false
  have ha₂ := amt_recv X W (dnD di c) di l (ot h) (h.val / 2) false
  have hp₁ : (((slotM di l (sl h) : Memref sig .tc .vmem S1024x2048 .bf16).view.loc (c : Thread nD τ) ↦[(slotM di l (sl h) : Memref sig .tc .vmem S1024x2048 .bf16).view.set]{fullShare} f : sProp 𝕄))
      ⊢ (Rd X W).payload (sendCell c di l (sl h)) (h.val / 2) false := by
    rw [pay_send]
    unfold sendPay slotAny owns
    iintro H
    iexists _
    iapply (owns_intro' c hf) $$ H
  have hp₂ : iprop(((slotM di l (ot h) : Memref sig .tc .vmem S1024x2048 .bf16).view.loc (dnD di c : Thread nD τ) ↦[(slotM di l (ot h) : Memref sig .tc .vmem S1024x2048 .bf16).view.set]{fullShare}
        ((slotM di l (ot h) : Memref sig .tc .vmem S1024x2048 .bf16).view.write (Elt F) g ((slotM di l (sl h) : Memref sig .tc .vmem S1024x2048 .bf16).view.read (Elt F) f) Finset.univ) : sProp 𝕄)
        ∗ reached ER (credCell c di l) (h.val + 1))
      ⊢ (Rd X W).payload (recvCell (dnD di c) di l (ot h)) (h.val / 2) false := by
    rw [pay_recv]
    unfold recvPay slotIs owns
    rw [up_dn]
    iintro ⟨H, Hr⟩
    isplitl [H]
    · iapply (owns_intro' (dnD di c) ((View.read_write_univ (v := (slotM di l (ot h) : Memref sig .tc .vmem S1024x2048 .bf16).view) g _).trans hf)) $$ H
    iexact Hr
  iapply (Rounds.wp_send_pointsTo_with 𝒱₀ ER (Rd X W) (c : Thread nD τ) none (c' := (dnD di c : Thread nD τ)) (src := slotM di l (sl h)) (dst := slotM di l (ot h))
      (κ₁ := K (c, .send di l (sl h))) (κ₂ := K (dnD di c, .recv di l (ot h)))
      (r₁ := h.val / 2) (r₂ := h.val / 2) (d₁ := false) (d₂ := false) (fd := g) (fs := f) (F := reached ER (credCell c di l) (h.val + 1))
      hd₁ hd₂ (2 * kk h l di + 3) 0 N (N_amt di l (ot h) _) ha₁ ha₂ O (O₀ := O + sendT c h l di) rfl hp₁ hp₂) $$ [Hs Hd Hcr HO Ht1 Hr1 Ht2 Hr2]
  · isplitr; · iapply (inv_send X W K c di l (sl h)); iexact Hc
    isplitr; · iapply (inv_recv X W K (dnD di c) di l (ot h)); iexact Hc
    isplitl [Hs]; · iexact Hs
    isplitl [Hd Hcr]
    · isplitl [Hd] <;> iassumption
    isplitl [HO]; · iexact HO
    isplitl [Ht1]; · iexact Ht1
    isplitl [Hr1]; · iexact Hr1
    isplitl [Ht2]; · iexact Ht2
    iexact Hr2
  iintro ⟨Hcr, HO⟩
  iapply Hk
  isplitl [Hcr]; · iexact Hcr
  iexists _; iexact HO

end Steps

end Cert.KernelIdeal.Rs

end
-- ==== Proof.Ideal.Hops.lean ====
/-
  The barrier and the hops of a lane and direction.
-/
module

public import proofs.«01_k».proof.Proof.Ideal.Build
public import proofs.«01_k».proof.Proof.Ideal.Remote

@[expose] public section

set_option maxRecDepth 65536

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ

section Hops
variable (X : Dev nD → Vec F S8192x2048 .f32) (W : Dev nD → Vec F S2048x4096 .f32) (K : Dev nD × Kd → ℕ)
variable (c : Dev nD) {α : Type} {Q : α → sProp (MT nD τ sig ℕ (Elt F) ℕ UU ℕ)}

/-! ## The barrier -/

theorem amt_bar (d : Bool) : (Rd X W).amount (barCell c) 0 d = (1#32 : BitVec 32).toNat := by rw [← cell_bar, amount_k]; rfl
theorem duty_bar (d : Bool) : d ∈ (Rd X W).duties (barCell c) 0 := by
  rw [← cell_bar, duties_k]; exact Finset.mem_univ d
theorem pay_bar (d : Bool) : (Rd X W).payload (barCell c) 0 d = iprop(emp) := by rw [← cell_bar, payload_k]; rfl
theorem exp_bar : 0 + (2#32 : BitVec 32).toNat = (Rd X W).expect (barCell c) 0 := by rw [← cell_bar, expect_bar]; rfl

/-- What the barrier leaves a device owing to its neighbours. -/
def barT (c : Dev nD) (O : CellTallies nD τ sig ℕ) : CellTallies nD τ sig ℕ := (O + tallyAt (barCell (nxt c)) 1 1) + tallyAt (barCell (prv c)) 1 1

theorem wp_meet {O : CellTallies nD τ sig ℕ} (hO : Above 2 O) {k : PUnit → Pr F α} :
    iprop(ctx X W K ∗ dutyTok ER (barCell (prv c)) 0 false ∗ dutyTok ER (barCell (nxt c)) 0 true ∗ cred (tallyAt (barCell c) 1 2) ∗ atPos ER (barCell c) 0 ∅ 0
        ∗ Ow c (barT c O))
      ⊢ iprop((iprop(Ow c O ∗ atPos ER (barCell c) 1 ∅ 0) -∗ wpc c (k ⟨⟩) Q) -∗ wpc c (meet (std c) >>= k) Q) := by
  unfold meet Ow barT
  simp only [semSignalWord, semWaitWord, Prog.lift, Prog.bind_op, Prog.bind_ret, bind_assoc]
  iintro ⟨#Hc, Ht1, Ht2, Hcr, Hat, ⟨%V, HO⟩⟩ Hk
  have d1 := duty_bar X W (prv c) false
  have a1 := amt_bar X W (prv c) false
  have d2 := duty_bar X W (nxt c) true
  have a2 := amt_bar X W (nxt c) true
  have hk := exp_bar X W c
  iapply (Rounds.wp_signal 𝒱₀ ER (Rd X W) (c : Thread nD τ) none (dst := (prv c : Thread nD τ)) (sem := barS) (κ := K (prv c, .bar))
      (d := false) d1 a1 1 (O + tallyAt (barCell (nxt c)) 1 1) (O₀ := (O + tallyAt (barCell (nxt c)) 1 1) + tallyAt (barCell (prv c)) 1 1) rfl) $$ [Ht1 HO]
  · isplitr; · iapply (inv_bar X W K (prv c)); iexact Hc
    isplitl [HO]; · iexact HO
    isplitl [Ht1]; · iexact Ht1
    isplitr; · rw [pay_bar]; iempintro
    iapply (ctx_reached X W K (prv c) .bar); iexact Hc
  iintro HO
  iapply (Rounds.wp_signal 𝒱₀ ER (Rd X W) (c : Thread nD τ) none (dst := (nxt c : Thread nD τ)) (sem := barS) (κ := K (nxt c, .bar))
      (d := true) d2 a2 1 O (O₀ := O + tallyAt (barCell (nxt c)) 1 1) rfl) $$ [Ht2 HO]
  · isplitr; · iapply (inv_bar X W K (nxt c)); iexact Hc
    isplitl [HO]; · iexact HO
    isplitl [Ht2]; · iexact Ht2
    isplitr; · rw [pay_bar]; iempintro
    iapply (ctx_reached X W K (nxt c) .bar); iexact Hc
  iintro HO
  iapply (Rounds.wp_wait_rest_token 𝒱₀ ER (Rd X W) (c : Thread nD τ) none (sm := SemLoc.reg barS) (k' := (2#32 : BitVec 32).toNat) (κ := K (c, .bar))
      (wpE_semWait_eq 𝒱₀ (c : Thread nD τ) none Set.univ) (Set.mem_univ _) 1 (O := O) (W := V) (R := 0) (m := 0) (T := ∅) hk) $$ [Hcr HO Hat]
  · isplitr; · iapply (inv_bar X W K c); iexact Hc
    isplitl [Hcr]; · iexact Hcr
    isplitl [HO]; · iexact HO
    isplitr
    · iapply (mayWait_above c _ 1 (by decide) hO); iapply (ctx_lev X W K); iexact Hc
    iexact Hat
  iintro ⟨HO, Hat, -, -⟩
  iapply Hk
  isplitl [HO]; · iexists _; iexact HO
  iexact Hat

/-! ## The hops -/

/-- What a step of a lane and direction pays with and takes its credit by. -/
def Tk (h : Fin 3) (l di : Fin 2) : sProp (MT nD τ sig ℕ (Elt F) ℕ UU ℕ) :=
  iprop(dutyTok ER (credCell (upD di c) di l) h.val false ∗ dutyTok ER (sendCell c di l (sl h)) (h.val / 2) false
    ∗ dutyTok ER (recvCell (dnD di c) di l (ot h)) (h.val / 2) false ∗ cred (tallyAt (credCell c di l) (2 * kk h l di + 2) 1))
/-- What it waits for the arrival of the same hop by. -/
def Rc (h : Fin 3) (l di : Fin 2) : sProp (MT nD τ sig ℕ (Elt F) ℕ UU ℕ) := cred (tallyAt (recvCell c di l (ot h)) (2 * kk h l di + 3) N)

/-- A lane and direction before its first hop. -/
def S0 (l di : Fin 2) : sProp (MT nD τ sig ℕ (Elt F) ℕ UU ℕ) :=
  iprop(slotAny c di l 0 ∗ slotAny c di l 1 ∗ atPos ER (credCell c di l) 0 ∅ 0 ∗ atPos ER (sendCell c di l 0) 0 ∅ 0 ∗ atPos ER (sendCell c di l 1) 0 ∅ 0
    ∗ atPos ER (recvCell c di l 0) 0 ∅ 0 ∗ atPos ER (recvCell c di l 1) 0 ∅ 0)
/-- After hop `h`, which sent slot `s`. -/
def S (h : Fin 3) (l di s r : Fin 2) : sProp (MT nD τ sig ℕ (Elt F) ℕ UU ℕ) :=
  iprop(cred (tallyAt (sendCell c di l s) 0 N) ∗ atPos ER (credCell c di l) (h.val + 1) ∅ 0
    ∗ atPos ER (sendCell c di l s) (h.val / 2) ∅ 0 ∗ atPos ER (sendCell c di l r) ((h.val + 1) / 2) ∅ 0
    ∗ atPos ER (recvCell c di l s) ((h.val + 1) / 2) ∅ 0 ∗ atPos ER (recvCell c di l r) (h.val / 2) ∅ 0
    ∗ reached ER (sendCell c di l r) ((h.val + 1) / 2) ∗ reached ER (recvCell c di l s) ((h.val + 1) / 2))

/-- The end of every hop: a credit given, a credit taken, the slot sent. -/
theorem wp_tail (h : Fin 3) (l di s r : Fin 2) (hs : sl h = s) (hr : ot h = r) (rest : List (Fin 3 × Fin 2 × Fin 2))
    (hR : ∀ e ∈ rest, 2 * kk h l di + 3 ≤ 2 * kk e.1 e.2.1 e.2.2 + 2) {k : PUnit → Pr F α} :
    iprop(ctx X W K ∗ Tk c h l di ∗ atPos ER (credCell c di l) h.val ∅ 0 ∗ slotAny c di l r ∗ reached ER (recvCell c di l r) (h.val / 2)
        ∗ reached ER (credCell (upD di c) di l) h.val ∗ slotIs c di l s (built X W di l h c) ∗ reached ER (sendCell c di l s) (h.val / 2)
        ∗ Ow c (owedL c ((h, l, di) :: rest)))
      ⊢ iprop((iprop(cred (tallyAt (sendCell c di l s) 0 N) ∗ atPos ER (credCell c di l) (h.val + 1) ∅ 0 ∗ Ow c (owedL c rest)) -∗ wpc c (k ⟨⟩) Q)
          -∗ wpc c (creditGive di l (upD di c) >>= fun _ => creditTake di l >>= fun _ => sendOff di l s r (dnD di c) >>= k) Q) := by
  subst hs hr
  unfold Tk
  iintro ⟨#Hc, ⟨T1, T2, T3, Hcr⟩, Hat, Hr, Hrr, Hru, Hs, Hrs, HO⟩ Hk
  ihave HO := (Entails.of_eq (show Ow c (owedL c ((h, l, di) :: rest)) = (Ow c ((owedL c rest + sendT c h l di) + credT c h l di) : sProp 𝕄) from rfl)) $$ HO
  iapply (wp_creditGive X W K c di l h (ot h) rfl) $$ [T1 Hru Hr Hrr HO]
  · isplitr; · iexact Hc
    isplitl [T1]; · iexact T1
    isplitl [Hru]; · iexact Hru
    isplitl [Hr]; · iexact Hr
    isplitl [Hrr]; · iexact Hrr
    iexact HO
  iintro HO
  have hO : Above (2 * kk h l di + 3) (owedL c rest + sendT c h l di) :=
    above_add (above_owed c _ rest hR) (above_tally _ _ _ _ _ (Nat.le_refl _) (by have := kk_lt h l di; omega))
  iapply (wp_creditTake X W K c di l h (ot h) rfl hO) $$ [Hcr HO Hat]
  · isplitr; · iexact Hc
    isplitl [Hcr]; · iexact Hcr
    isplitl [HO]; · iexact HO
    iexact Hat
  iintro ⟨HO, Hat, Hrc, Hd, Hrd⟩
  iapply (wp_sendOff X W K c di l h (sl h) (ot h) rfl rfl (dnD di c) rfl) $$ [Hs Hd Hrc HO T2 Hrs T3 Hrd]
  · isplitr; · iexact Hc
    isplitl [Hs]; · iexact Hs
    isplitl [Hd]; · iexact Hd
    isplitl [Hrc]; · iexact Hrc
    isplitl [HO]; · iexact HO
    isplitl [T2]; · iexact T2
    isplitl [Hrs]; · iexact Hrs
    isplitl [T3]; · iexact T3
    iexact Hrd
  iintro ⟨Hcr, HO⟩
  iapply Hk
  isplitl [Hcr]; · iexact Hcr
  isplitl [Hat]; · iexact Hat
  iexact HO

/-- A slot as the part of the buffer a build works on, and back. -/
theorem slot_at (di l s : Fin 2) (V : Vec F S1024x2048 .bf16) : slotIs c di l s V ⊢ At c (comm di) fullShare (rSlot l s).set (cslot V) := by
  unfold slotIs
  exact squeeze_at c (comm di) fullShare (rSlot l s) (fun _ => rfl) squeezes_S1x1x1024x2048_S1024x2048 V (cslot V) (cslot_squeeze V l s)
theorem at_slot (di l s : Fin 2) (V : Vec F S1024x2048 .bf16) : At c (comm di) fullShare (rSlot l s).set (cslot V) ⊢ slotIs c di l s V := by
  unfold slotIs
  have h := at_squeeze c (comm di) fullShare (rSlot l s) (fun _ => rfl) squeezes_S1x1x1024x2048_S1024x2048 (cslot V)
  rwa [show (fun j => cslot V ((rSlot l s).emb (Shape.reshapeEquiv squeezes_S1x1x1024x2048_S1024x2048.numel_eq j))) = V from funext (cslot_squeeze V l s)] at h

theorem slotAny_is (di l s : Fin 2) : (slotAny c di l s : sProp 𝕄) ⊢ iprop(∃ V, slotIs c di l s V) := by
  unfold slotAny slotIs; iintro H; iexact H
theorem slotIs_any (di l s : Fin 2) (V : Vec F S1024x2048 .bf16) : (slotIs c di l s V : sProp 𝕄) ⊢ slotAny c di l s := by
  unfold slotAny slotIs; iintro H; iexists V; iexact H

theorem built_first (di l : Fin 2) (t : T4) :
    rowsOf (built X W di l 0 c) (q4 t) = k0_pay9 (xrow (X c) ((std c).row 0 l di t)) (whalf (W c) di) := by
  show rowsOf (firstP X W di l c) (q4 t) = _
  unfold firstP
  rw [rowsOf_joinRows]; rfl
theorem built_next (di l : Fin 2) (t : T4) : ∀ h h' : Fin 3, h'.val = h.val + 1 →
    rowsOf (built X W di l h' c) (q4 t) = k0_pay21 (xrow (X c) ((std c).row h' l di t)) (whalf (W c) di) (rowsOf (built X W di l h (upD di c)) (q4 t))
  | 0, 1, _ => by
    show rowsOf (addP X W di l 1 c (firstP X W di l (upD di c))) (q4 t) = _
    exact rowsOf_joinRows _ (q4 t)
  | 1, 2, _ => by
    show rowsOf (addP X W di l 2 c (addP X W di l 1 (upD di c) (firstP X W di l (upD di (upD di c))))) (q4 t) = _
    exact rowsOf_joinRows _ (q4 t)

/-- What the builds of a device use besides the slots. -/
def Pool (di : Fin 2) : sProp (MT nD τ sig ℕ (Elt F) ℕ UU ℕ) := iprop(xFree c (X c) ∗ At c wM fullShare (rHalf di).set (wb (W c)))

/-- The first hop of a lane and direction. -/
theorem wp_hop0 (l di : Fin 2) (rest : List (Fin 3 × Fin 2 × Fin 2)) (hR : ∀ e ∈ rest, 2 * kk 0 l di + 3 ≤ 2 * kk e.1 e.2.1 e.2.2 + 2) {k : PUnit → Pr F α} :
    iprop(ctx X W K ∗ Pool X W c di ∗ S0 c l di ∗ Tk c 0 l di ∗ Ow c (owedL c ((0, l, di) :: rest)))
      ⊢ iprop((iprop(Pool X W c di ∗ S c 0 l di 0 1 ∗ Ow c (owedL c rest)) -∗ wpc c (k ⟨⟩) Q) -∗ wpc c (hop0 (std c) l di >>= k) Q) := by
  unfold hop0 Pool S0
  simp only [bind_assoc]
  iintro ⟨#Hc, ⟨HX, HM⟩, ⟨Hs0, Hs1, Ac, A0, A1, B0, B1⟩, HT, HO⟩ Hk
  have hO : Above 1 (owedL c ((0, l, di) :: rest)) := above_owed c 1 _ (fun e _ => by omega)
  ihave Hs0 := (slotAny_is c di l 0) $$ Hs0
  icases Hs0 with ⟨%V0, Hs0⟩
  ihave Hs0 := (slot_at c di l 0 V0) $$ Hs0
  iapply (wp_buildFirst c (W c) (X c) di l 0 (fun t => (std c).row 0 l di t) (built X W di l 0 c) V0 (built_first X W c di l) hO) $$ [HX HM Hs0 HO]
  · isplitr; · iapply (ctx_lev X W K); iexact Hc
    unfold bSt
    isplitl [HX]; · iexact HX
    isplitl [HM]; · iexact HM
    isplitl [HO] <;> iassumption
  unfold bSt
  iintro ⟨HX, HM, HO, Hs0⟩
  ihave Hs0 := (at_slot c di l 0 _) $$ Hs0
  iapply (wp_tail X W K c 0 l di 0 1 rfl rfl rest hR) $$ [HT Ac Hs1 Hs0 HO]
  · isplitr; · iexact Hc
    isplitl [HT]; · iexact HT
    isplitl [Ac]; · iexact Ac
    isplitl [Hs1]; · iexact Hs1
    isplitr; · iapply (ctx_reached X W K c (.recv di l 1)); iexact Hc
    isplitr; · iapply (ctx_reached X W K (upD di c) (.cred di l)); iexact Hc
    isplitl [Hs0]; · iexact Hs0
    isplitr; · iapply (ctx_reached X W K c (.send di l 0)); iexact Hc
    iexact HO
  iintro ⟨Hcr, Ac, HO⟩
  iapply Hk
  isplitl [HX HM]
  · isplitl [HX] <;> iassumption
  isplitr [HO]
  · unfold S
    isplitl [Hcr]; · iexact Hcr
    isplitl [Ac]; · iexact Ac
    isplitl [A0]; · iexact A0
    isplitl [A1]; · iexact A1
    isplitl [B0]; · iexact B0
    isplitl [B1]; · iexact B1
    isplitr; · iapply (ctx_reached X W K c (.send di l 1)); iexact Hc
    iapply (ctx_reached X W K c (.recv di l 0)); iexact Hc
  iexact HO

/-- A later hop `h'`, after hop `h`: slot `s` takes what arrived, slot `r` was sent last. -/
theorem wp_hop (h h' : Fin 3) (hh : h'.val = h.val + 1) (l di s r : Fin 2) (hs : sl h' = s) (hr : ot h' = r) (hr' : sl h = r) (hs' : ot h = s) (rest : List (Fin 3 × Fin 2 × Fin 2))
    (hA : ∀ e ∈ (h', l, di) :: rest, 2 * kk h l di + 4 ≤ 2 * kk e.1 e.2.1 e.2.2 + 2) (hR : ∀ e ∈ rest, 2 * kk h' l di + 3 ≤ 2 * kk e.1 e.2.1 e.2.2 + 2) {k : PUnit → Pr F α} :
    iprop(ctx X W K ∗ Pool X W c di ∗ S c h l di r s ∗ Rc c h l di ∗ Tk c h' l di ∗ Ow c (owedL c ((h', l, di) :: rest)))
      ⊢ iprop((iprop(Pool X W c di ∗ S c h' l di s r ∗ Ow c (owedL c rest)) -∗ wpc c (k ⟨⟩) Q) -∗ wpc c (hop (std c) h' l di s r >>= k) Q) := by
  unfold hop Pool Rc
  rw [hs']
  rw [show S c h l di r s = (S c h l di r s : sProp 𝕄) from rfl]
  unfold S
  simp only [bind_assoc]
  iintro ⟨#Hc, ⟨HX, HM⟩, ⟨Hsc, Ac, Ar, As, Br, Bs, #Hrs, #Hrr⟩, Hrc, HT, HO⟩ Hk
  have hO : Above 1 (owedL c ((h', l, di) :: rest)) := above_owed c 1 _ (fun e _ => by omega)
  have e1 : h.val / 2 + 1 = (h'.val + 1) / 2 := by omega
  have e2 : (h.val + 1) / 2 = h'.val / 2 := by omega
  iapply (wp_recvWait X W K c di l h r s hs' (above_owed c _ _ hA)) $$ [Hrc HO Bs]
  · isplitr; · iexact Hc
    isplitl [Hrc]; · iexact Hrc
    isplitl [HO]; · iexact HO
    iexact Bs
  iintro ⟨HO, Bs, #Hrs2, Hs, #Hru⟩
  ihave Hs := (slot_at c di l s _) $$ Hs
  have hb := fun t => built_next X W c di l t h h' hh
  have hsl : (std c).slot h' l di = fun t => slotOff l s t := by rw [← hs]; rfl
  rw [hsl]
  iapply (wp_buildNext c (W c) (X c) di l s (fun t => (std c).row h' l di t) (built X W di l h' c) (built X W di l h (upD di c)) hb hO) $$ [HX HM Hs HO]
  · isplitr; · iapply (ctx_lev X W K); iexact Hc
    unfold bSt
    isplitl [HX]; · iexact HX
    isplitl [HM]; · iexact HM
    isplitl [HO] <;> iassumption
  unfold bSt
  iintro ⟨HX, HM, HO, Hs⟩
  ihave Hs := (at_slot c di l s _) $$ Hs
  iapply (wp_sendWait X W K c di l h r s hr' hO) $$ [Hsc HO Ar]
  · isplitr; · iexact Hc
    isplitl [Hsc]; · iexact Hsc
    isplitl [HO]; · iexact HO
    iexact Ar
  iintro ⟨HO, Ar, #Hrr2, Hr⟩
  rw [e1, e2, ← hh]
  iapply (wp_tail X W K c h' l di s r hs hr rest hR) $$ [HT Ac Hr Hs HO]
  · isplitr; · iexact Hc
    isplitl [HT]; · iexact HT
    isplitl [Ac]; · iexact Ac
    isplitl [Hr]; · iexact Hr
    isplitr; · iexact Hrr
    isplitr; · iexact Hru
    isplitl [Hs]; · iexact Hs
    isplitr; · iexact Hrs
    iexact HO
  iintro ⟨Hcr, Ac, HO⟩
  iapply Hk
  isplitl [HX HM]
  · isplitl [HX] <;> iassumption
  isplitr [HO]
  · isplitl [Hcr]; · iexact Hcr
    isplitl [Ac]; · iexact Ac
    isplitl [As]; · iexact As
    isplitl [Ar]; · iexact Ar
    isplitl [Bs]; · iexact Bs
    isplitl [Br]; · iexact Br
    isplitr; · iexact Hrr2
    iexact Hrs2
  iexact HO

end Hops

end Cert.KernelIdeal.Rs

end
-- ==== Proof.Ideal.Finish.lean ====
/-
  The last phase: the sixteen blocks of the result, each the sum of what arrived and the device's own product.
-/
module

public import proofs.«01_k».proof.Proof.Ideal.Hops

@[expose] public section

set_option maxRecDepth 65536

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen
open Idealize.ShloMosaic.ValueIdx (ix2 ix3 eq_ix2)

variable {F : FTy → Type} [FloatOps F]

local notation "𝕄" => MT nD τ sig ℕ (Elt F) ℕ UU ℕ

section Finish
variable (X : Dev nD → Vec F S8192x2048 .f32) (W : Dev nD → Vec F S2048x4096 .f32) (K : Dev nD × Kd → ℕ)
variable (c : Dev nD) {α : Type} {Q : α → sProp (MT nD τ sig ℕ (Elt F) ℕ UU ℕ)}

/-! ## The last phase -/

/-- A block of the result holding anything; holding the result; on its way there from staging slot `s`. -/
def oAny (h : Fin 2) (b : Fin 8) : sProp (MT nD τ sig ℕ (Elt F) ℕ UU ℕ) := iprop(∃ Y : Vec F S2048x4096 .f32, At c oA fullShare (rBlk h b).set Y)
def oDone (h : Fin 2) (b : Fin 8) : sProp (MT nD τ sig ℕ (Elt F) ℕ UU ℕ) := At c oA fullShare (rBlk h b).set (outAll X W c)
def oFly (h : Fin 2) (b : Fin 8) (s : Fin 2) : sProp (MT nD τ sig ℕ (Elt F) ℕ UU ℕ) :=
  Flight EC (c : Thread nD τ) (.dma (outS s)) 0 NS iprop(oDone X W c h b ∗ stageAny c s)
/-- A staging slot nothing uses. -/
def oFree (s : Fin 2) : sProp (MT nD τ sig ℕ (Elt F) ℕ UU ℕ) := iprop(stageAny c s ∗ semVal ((c : Thread nD τ), SemLoc.dma (outS s)) 0)
/-- The last arrival of a lane and direction, awaited; there. -/
def Arr (l di : Fin 2) : sProp (MT nD τ sig ℕ (Elt F) ℕ UU ℕ) := iprop(Rc c 2 l di ∗ atPos ER (recvCell c di l 1) 1 ∅ 0)
def Got (l di : Fin 2) : sProp (MT nD τ sig ℕ (Elt F) ℕ UU ℕ) :=
  iprop(At c (comm di) fullShare (rSlot l 1).set (cslot (built X W di l 2 (upD di c))) ∗ atPos ER (recvCell c di l 1) 2 ∅ 0)

theorem NO_amt (h : Fin 2) (b : Fin 8) (q : DmaSem sig) : (oBlk h b : Memref sig .tc .hbm S256x2048 .f32).view.amount (SemLoc.dma q) = NS := rfl
theorem NO_eq (h : Fin 2) (b : Fin 8) : (oBlk h b : Memref sig .tc .hbm S256x2048 .f32).view.dmaCredit = NS := rfl

/-- A staged block as a block of the result. -/
def outV (di l : Fin 2) (q : Fin 4) : Vec F S256x2048 .f32 := fun j => outBlk X W di l q c (ix3 (0 : Fin 1) (j 0) (j 1))

theorem stg_outV (di l : Fin 2) (q : Fin 4) (s : Fin 2) (j : S1x256x2048.Idx) : stg (outV X W c di l q) ((rStage s).emb j) = outBlk X W di l q c j := by
  show outBlk X W di l q c (ix3 (0 : Fin 1) (((rStage s).emb j) 1) (((rStage s).emb j) 2)) = _
  congr 1
  funext a
  match a with
  | 0 => exact Subsingleton.elim (α := Fin 1) _ _
  | 1 => exact Fin.ext ((emb_val _ 1).trans (Nat.zero_add _))
  | 2 => exact Fin.ext ((emb_val _ 2).trans (Nat.zero_add _))

theorem wp_outPut (di l : Fin 2) (q : Fin 4) (s : Fin 2) (b : Fin 8) (hb : bq l q = b) {k : PUnit → Pr F α} :
    iprop(At c (comm di) fullShare (rSlot l 1).set (cslot (built X W di l 2 (upD di c))) ∗ oFree c s ∗ oAny c di b)
      ⊢ iprop((iprop(At c (comm di) fullShare (rSlot l 1).set (cslot (built X W di l 2 (upD di c))) ∗ oFly X W c di b s) -∗ wpc c (k ⟨⟩) Q)
          -∗ wpc c (outPut di l q s b (xrow (X c) (rowOff c.val c.isLt l q)) (whalf (W c) di) >>= k) Q) := by
  subst hb
  unfold outPut oFree oAny stageAny
  simp only [Prog.lift, Prog.bind_op, Prog.bind_ret, bind_assoc]
  iintro ⟨HC, ⟨⟨%V, Hs⟩, Hv⟩, ⟨%Y, Ho⟩⟩ Hk
  iapply (wp_at_load c (m := comm di) (r := rRows l 1 q) (rows_sub l 1 q)) $$ HC
  iintro HC
  ihave Hs := (squeeze_at c sM fullShare (rStage s) (fun _ => rfl) squeezes_S1x256x2048_S256x2048 V (stg V) (stg_squeeze _ s)) $$ Hs
  iapply (wp_at_load c (m := sM) (r := rStage s) (Finset.Subset.refl _)) $$ Hs
  iintro Hs
  have hw : ∀ j, stg (outV X W c di l q) ((rStage s).emb j)
      = k0_pay30 (k0_pay29 (xrow (X c) (rowOff c.val c.isLt l q)) (whalf (W c) di)) (fun j => cslot (built X W di l 2 (upD di c)) ((rRows l 1 q).emb j)) j := by
    intro j
    have e : rowsOf (built X W di l 2 (upD di c)) q = fun j => cslot (built X W di l 2 (upD di c)) ((rRows l 1 q).emb j) := funext fun j => (cslot_rows _ l 1 q j).symm
    exact (stg_outV X W c di l q s j).trans (congrFun (congrArg (k0_pay30 (k0_pay29 (xrow (X c) (rowOff c.val c.isLt l q)) (whalf (W c) di))) e) j)
  iapply (wp_at_store c (m := sM) (r := rStage s) (Y := stg (outV X W c di l q)) hw) $$ Hs
  iintro Hs
  ihave Hs := (at_squeeze c sM fullShare (rStage s) (fun _ => rfl) squeezes_S1x256x2048_S256x2048 (stg (outV X W c di l q))) $$ Hs
  ihave Ho := (at_slice c oA fullShare (rBlk di (bq l q)) (fun _ => rfl) Y) $$ Ho
  have hV : (fun j => stg (outV X W c di l q) ((rStage s).emb (Shape.reshapeEquiv squeezes_S1x256x2048_S256x2048.numel_eq j))) = outV X W c di l q := funext fun j => stg_squeeze _ s j
  rw [hV]
  iapply (wp_own_dma c (src := stageM s) (dst := oBlk di (bq l q)) (sm := outS s) (V := outV X W c di l q) (U := fun j => Y ((rBlk di (bq l q)).emb j)) (q := fullShare) NS (NO_amt di (bq l q) _) NS_pos) $$ [Hs Ho Hv]
  · isplitl [Hs]; · iexact Hs
    isplitl [Ho]; · iexact Ho
    iexact Hv
  iintro HF
  have hmono : iprop(owns (c : Thread nD τ) (oBlk di (bq l q)) fullShare (outV X W c di l q) ∗ owns (c : Thread nD τ) (stageM s) fullShare (outV X W c di l q))
      ⊢ (iprop(oDone X W c di (bq l q) ∗ stageAny c s) : sProp 𝕄) := by
    unfold oDone stageAny
    iintro ⟨H1, H2⟩
    isplitl [H1]
    · iapply (slice_at c oA fullShare (rBlk di (bq l q)) (fun _ => rfl) (outV X W c di l q) (outAll X W c) (outAll_blk X W c di l q)); iexact H1
    iexists _; iexact H2
  ihave HF := (Flight_mono EC (c : Thread nD τ) hmono) $$ HF
  iapply Hk
  isplitl [HC]; · iexact HC
  unfold oFly; iexact HF

theorem wp_outWait (h : Fin 2) (b : Fin 8) (s : Fin 2) {O : CellTallies nD τ sig ℕ} (hO : Above 1 O) {k : PUnit → Pr F α} :
    iprop(levAts L lv ∗ oFly X W c h b s ∗ Ow c O)
      ⊢ iprop((iprop(oDone X W c h b ∗ oFree c s ∗ Ow c O) -∗ wpc c (k ⟨⟩) Q) -∗ wpc c (outWait h b s >>= k) Q) := by
  unfold outWait oFly oFree
  simp only [Prog.lift, Prog.bind_op, Prog.bind_ret]
  iintro ⟨#Hl, HF, HO⟩ Hk
  iapply (wp_own_wait c (sem := outS s) (srcw := stageM s) (dstw := oBlk h b) (n := NS) (NO_eq h b) hO) $$ [HF HO]
  · isplitr; · iexact Hl
    isplitl [HF] <;> iassumption
  iintro ⟨⟨Hd, Hs⟩, Hv, HO⟩
  iapply Hk
  isplitl [Hd]; · iexact Hd
  isplitl [Hs Hv]
  · isplitl [Hs] <;> iassumption
  iexact HO

/-- What a block of the last phase uses besides. -/
def Pl (di : Fin 2) : sProp (MT nD τ sig ℕ (Elt F) ℕ UU ℕ) := iprop(Pool X W c di ∗ Ow c 0)

theorem wp_fetch (di l : Fin 2) (q : Fin 4) {k : Vec F S256x2048 .f32 × Vec F S2048x2048 .bf16 → Pr F α} :
    iprop(ctx X W K ∗ Pl X W c di)
      ⊢ iprop((Pl X W c di -∗ wpc c (k (xrow (X c) (rowOff c.val c.isLt l q), whalf (W c) di)) Q) -∗ wpc c (xFetch ((std c).own l q) di >>= k) Q) := by
  unfold Pl Pool
  iintro ⟨#Hc, ⟨HX, HM⟩, HO⟩ Hk
  iapply (wp_xFetch c (W c) (X c) ((std c).own l q) di (above_zero 1)) $$ [HX HM HO]
  · isplitr; · iapply (ctx_lev X W K); iexact Hc
    isplitl [HX]; · iexact HX
    isplitl [HM] <;> iassumption
  iintro ⟨HX, HM, HO⟩
  iapply Hk
  isplitl [HX HM]
  · isplitl [HX] <;> iassumption
  iexact HO

theorem wp_arrive (l di : Fin 2) {k : PUnit → Pr F α} :
    iprop(ctx X W K ∗ Arr c l di ∗ Pl X W c di) ⊢ iprop((iprop(Got X W c l di ∗ Pl X W c di) -∗ wpc c (k ⟨⟩) Q) -∗ wpc c (recvWait di l 0 1 >>= k) Q) := by
  unfold Pl Arr Got Rc
  iintro ⟨#Hc, ⟨Hr, Ha⟩, HP, HO⟩ Hk
  iapply (wp_recvWait X W K c di l 2 0 1 rfl (above_zero _)) $$ [Hr Ha HO]
  · isplitr; · iexact Hc
    isplitl [Hr]; · iexact Hr
    isplitl [HO]; · iexact HO
    iexact Ha
  iintro ⟨HO, Ha, -, Hs, -⟩
  ihave Hs := (slot_at c di l 1 _) $$ Hs
  iapply Hk
  isplitl [Hs Ha]
  · isplitl [Hs]; · iexact Hs
    iexact Ha
  isplitl [HP] <;> iassumption

theorem wp_put (l di : Fin 2) (q : Fin 4) (s : Fin 2) (b : Fin 8) (hb : bq l q = b) {k : PUnit → Pr F α} :
    iprop(Got X W c l di ∗ oFree c s ∗ oAny c di b)
      ⊢ iprop((iprop(Got X W c l di ∗ oFly X W c di b s) -∗ wpc c (k ⟨⟩) Q)
          -∗ wpc c (outPut di l q s b (xrow (X c) (rowOff c.val c.isLt l q)) (whalf (W c) di) >>= k) Q) := by
  unfold Got
  iintro ⟨⟨HC, Ha⟩, Hf, Ho⟩ Hk
  iapply (wp_outPut X W c di l q s b hb) $$ [HC Hf Ho]
  · isplitl [HC]; · iexact HC
    isplitl [Hf] <;> iassumption
  iintro ⟨HC, HF⟩
  iapply Hk
  isplitl [HC Ha]
  · isplitl [HC] <;> iassumption
  iexact HF

theorem wp_wait' (di : Fin 2) (h : Fin 2) (b : Fin 8) (s : Fin 2) {k : PUnit → Pr F α} :
    iprop(ctx X W K ∗ oFly X W c h b s ∗ Pl X W c di)
      ⊢ iprop((iprop(oDone X W c h b ∗ oFree c s ∗ Pl X W c di) -∗ wpc c (k ⟨⟩) Q) -∗ wpc c (outWait h b s >>= k) Q) := by
  unfold Pl
  iintro ⟨#Hc, HF, HP, HO⟩ Hk
  iapply (wp_outWait X W c h b s (above_zero 1)) $$ [HF HO]
  · isplitr; · iapply (ctx_lev X W K); iexact Hc
    isplitl [HF] <;> iassumption
  iintro ⟨Hd, Hf, HO⟩
  iapply Hk
  isplitl [Hd]; · iexact Hd
  isplitl [Hf]; · iexact Hf
  isplitl [HP] <;> iassumption

theorem wp_finA (l di : Fin 2) (q : Fin 4) (s : Fin 2) (b : Fin 8) (hb : bq l q = b) {k : PUnit → Pr F α} :
    iprop(ctx X W K ∗ Pl X W c di ∗ Arr c l di ∗ oFree c s ∗ oAny c di b)
      ⊢ iprop((iprop(Pl X W c di ∗ Got X W c l di ∗ oFly X W c di b s) -∗ wpc c (k ⟨⟩) Q) -∗ wpc c (finA (std c) l di q s b >>= k) Q) := by
  unfold finA
  simp only [bind_assoc]
  iintro ⟨#Hc, HP, HA, Hf, Ho⟩ Hk
  iapply (wp_fetch X W K c di l q) $$ [HP]
  · isplitr; · iexact Hc
    iexact HP
  iintro HP
  dsimp only
  iapply (wp_arrive X W K c l di) $$ [HA HP]
  · isplitr; · iexact Hc
    isplitl [HA] <;> iassumption
  iintro ⟨HG, HP⟩
  iapply (wp_put X W c l di q s b hb) $$ [HG Hf Ho]
  · isplitl [HG]; · iexact HG
    isplitl [Hf] <;> iassumption
  iintro ⟨HG, HF⟩
  iapply Hk
  isplitl [HP]; · iexact HP
  isplitl [HG] <;> iassumption

theorem wp_finB (l di : Fin 2) (q : Fin 4) (s : Fin 2) (b : Fin 8) (hb : bq l q = b) {k : PUnit → Pr F α} :
    iprop(ctx X W K ∗ (Pl X W c di ∗ Got X W c l di) ∗ oFree c s ∗ oAny c di b)
      ⊢ iprop((iprop((Pl X W c di ∗ Got X W c l di) ∗ oFly X W c di b s) -∗ wpc c (k ⟨⟩) Q) -∗ wpc c (finB (std c) l di q s b >>= k) Q) := by
  unfold finB
  simp only [bind_assoc]
  iintro ⟨#Hc, ⟨HP, HG⟩, Hf, Ho⟩ Hk
  iapply (wp_fetch X W K c di l q) $$ [HP]
  · isplitr; · iexact Hc
    iexact HP
  iintro HP
  dsimp only
  iapply (wp_put X W c l di q s b hb) $$ [HG Hf Ho]
  · isplitl [HG]; · iexact HG
    isplitl [Hf] <;> iassumption
  iintro ⟨HG, HF⟩
  iapply Hk
  isplitl [HP HG]
  · isplitl [HP] <;> iassumption
  iexact HF

theorem wp_finC (l di : Fin 2) (q : Fin 4) (s : Fin 2) (b : Fin 8) (h' : Fin 2) (b' : Fin 8) (hb : bq l q = b) {k : PUnit → Pr F α} :
    iprop(ctx X W K ∗ (Pl X W c di ∗ Got X W c l di) ∗ oFly X W c h' b' s ∗ oAny c di b)
      ⊢ iprop((iprop((Pl X W c di ∗ Got X W c l di) ∗ oFly X W c di b s ∗ oDone X W c h' b') -∗ wpc c (k ⟨⟩) Q) -∗ wpc c (finC (std c) l di q s b h' b' >>= k) Q) := by
  unfold finC
  simp only [bind_assoc]
  iintro ⟨#Hc, ⟨HP, HG⟩, HF, Ho⟩ Hk
  iapply (wp_fetch X W K c di l q) $$ [HP]
  · isplitr; · iexact Hc
    iexact HP
  iintro HP
  dsimp only
  iapply (wp_wait' X W K c di h' b' s) $$ [HF HP]
  · isplitr; · iexact Hc
    isplitl [HF] <;> iassumption
  iintro ⟨Hd, Hf, HP⟩
  iapply (wp_put X W c l di q s b hb) $$ [HG Hf Ho]
  · isplitl [HG]; · iexact HG
    isplitl [Hf] <;> iassumption
  iintro ⟨HG, HF⟩
  iapply Hk
  isplitl [HP HG]
  · isplitl [HP] <;> iassumption
  isplitl [HF] <;> iassumption

theorem wp_finD (l di : Fin 2) (q : Fin 4) (s : Fin 2) (b : Fin 8) (h' : Fin 2) (b' : Fin 8) (hb : bq l q = b) {k : PUnit → Pr F α} :
    iprop(ctx X W K ∗ (Pl X W c di ∗ Arr c l di) ∗ oFly X W c h' b' s ∗ oAny c di b)
      ⊢ iprop((iprop((Pl X W c di ∗ Got X W c l di) ∗ oFly X W c di b s ∗ oDone X W c h' b') -∗ wpc c (k ⟨⟩) Q) -∗ wpc c (finD (std c) l di q s b h' b' >>= k) Q) := by
  unfold finD
  simp only [bind_assoc]
  iintro ⟨#Hc, ⟨HP, HA⟩, HF, Ho⟩ Hk
  iapply (wp_fetch X W K c di l q) $$ [HP]
  · isplitr; · iexact Hc
    iexact HP
  iintro HP
  dsimp only
  iapply (wp_arrive X W K c l di) $$ [HA HP]
  · isplitr; · iexact Hc
    isplitl [HA] <;> iassumption
  iintro ⟨HG, HP⟩
  iapply (wp_wait' X W K c di h' b' s) $$ [HF HP]
  · isplitr; · iexact Hc
    isplitl [HF] <;> iassumption
  iintro ⟨Hd, Hf, HP⟩
  iapply (wp_put X W c l di q s b hb) $$ [HG Hf Ho]
  · isplitl [HG]; · iexact HG
    isplitl [Hf] <;> iassumption
  iintro ⟨HG, HF⟩
  iapply Hk
  isplitl [HP HG]
  · isplitl [HP] <;> iassumption
  isplitl [HF] <;> iassumption

/-- The four blocks of a lane and direction, the output blocks `b`, after two whose copies still run. -/
theorem wp_group (l di : Fin 2) (b0 b1 b2 b3 : Fin 8) (hb0 : bq l 0 = b0) (hb1 : bq l 1 = b1) (hb2 : bq l 2 = b2) (hb3 : bq l 3 = b3) (h' : Fin 2) (p0 p1 : Fin 8) {k : PUnit → Pr F α} :
    iprop(ctx X W K ∗ (Pl X W c di ∗ Arr c l di) ∗ (oFly X W c h' p0 0 ∗ oFly X W c h' p1 1) ∗ (oAny c di b0 ∗ oAny c di b1 ∗ oAny c di b2 ∗ oAny c di b3))
      ⊢ iprop((iprop((Pl X W c di ∗ Got X W c l di) ∗ (oFly X W c di b2 0 ∗ oFly X W c di b3 1) ∗ (oDone X W c h' p0 ∗ oDone X W c h' p1 ∗ oDone X W c di b0 ∗ oDone X W c di b1)) -∗ wpc c (k ⟨⟩) Q)
          -∗ wpc c (finD (std c) l di 0 0 b0 h' p0 >>= fun _ => finC (std c) l di 1 1 b1 h' p1 >>= fun _ => finC (std c) l di 2 0 b2 di b0 >>= fun _ => finC (std c) l di 3 1 b3 di b1 >>= k) Q) := by
  iintro ⟨#Hc, HP, ⟨F0, F1⟩, O0, O1, O2, O3⟩ Hk
  iapply (wp_finD X W K c l di 0 0 b0 h' p0 hb0) $$ [HP F0 O0]
  · isplitr; · iexact Hc
    isplitl [HP]; · iexact HP
    isplitl [F0] <;> iassumption
  iintro ⟨HP, F0, D0⟩
  iapply (wp_finC X W K c l di 1 1 b1 h' p1 hb1) $$ [HP F1 O1]
  · isplitr; · iexact Hc
    isplitl [HP]; · iexact HP
    isplitl [F1] <;> iassumption
  iintro ⟨HP, F1, D1⟩
  iapply (wp_finC X W K c l di 2 0 b2 di b0 hb2) $$ [HP F0 O2]
  · isplitr; · iexact Hc
    isplitl [HP]; · iexact HP
    isplitl [F0] <;> iassumption
  iintro ⟨HP, F0, D2⟩
  iapply (wp_finC X W K c l di 3 1 b3 di b1 hb3) $$ [HP F1 O3]
  · isplitr; · iexact Hc
    isplitl [HP]; · iexact HP
    isplitl [F1] <;> iassumption
  iintro ⟨HP, F1, D3⟩
  iapply Hk
  isplitl [HP]; · iexact HP
  isplitl [F0 F1]
  · isplitl [F0] <;> iassumption
  isplitl [D0]; · iexact D0
  isplitl [D1]; · iexact D1
  isplitl [D2] <;> iassumption

/-- The four blocks of the first lane and direction, with the staging slots free. -/
theorem wp_group0 {k : PUnit → Pr F α} :
    iprop(ctx X W K ∗ (Pl X W c 0 ∗ Arr c 0 0) ∗ (oFree c 0 ∗ oFree c 1) ∗ (oAny c 0 0 ∗ oAny c 0 1 ∗ oAny c 0 2 ∗ oAny c 0 3))
      ⊢ iprop((iprop((Pl X W c 0 ∗ Got X W c 0 0) ∗ (oFly X W c 0 2 0 ∗ oFly X W c 0 3 1) ∗ (oDone X W c 0 0 ∗ oDone X W c 0 1)) -∗ wpc c (k ⟨⟩) Q)
          -∗ wpc c (finA (std c) 0 0 0 0 0 >>= fun _ => finB (std c) 0 0 1 1 1 >>= fun _ => finC (std c) 0 0 2 0 2 0 0 >>= fun _ => finC (std c) 0 0 3 1 3 0 1 >>= k) Q) := by
  iintro ⟨#Hc, ⟨HP, HA⟩, ⟨F0, F1⟩, O0, O1, O2, O3⟩ Hk
  iapply (wp_finA X W K c 0 0 0 0 0 rfl) $$ [HP HA F0 O0]
  · isplitr; · iexact Hc
    isplitl [HP]; · iexact HP
    isplitl [HA]; · iexact HA
    isplitl [F0] <;> iassumption
  iintro ⟨HP, HG, F0⟩
  iapply (wp_finB X W K c 0 0 1 1 1 rfl) $$ [HP HG F1 O1]
  · isplitr; · iexact Hc
    isplitl [HP HG]
    · isplitl [HP] <;> iassumption
    isplitl [F1] <;> iassumption
  iintro ⟨HP, F1⟩
  iapply (wp_finC X W K c 0 0 2 0 2 0 0 rfl) $$ [HP F0 O2]
  · isplitr; · iexact Hc
    isplitl [HP]; · iexact HP
    isplitl [F0] <;> iassumption
  iintro ⟨HP, F0, D2⟩
  iapply (wp_finC X W K c 0 0 3 1 3 0 1 rfl) $$ [HP F1 O3]
  · isplitr; · iexact Hc
    isplitl [HP]; · iexact HP
    isplitl [F1] <;> iassumption
  iintro ⟨HP, F1, D3⟩
  iapply Hk
  isplitl [HP]; · iexact HP
  isplitl [F0 F1]
  · isplitl [F0] <;> iassumption
  isplitl [D2] <;> iassumption

/-! ## The whole result, block by block -/

/-- The parts of a family of pairwise disjoint sets, all at once. -/
theorem at_big {ι : Type} [DecidableEq ι] {sp : Space} {s : Shape} {e : EltTy} (m : Memref sig .tc sp s e) (q : PosShare TreeShare) (X : s.Idx → Elt F e) (f : m.view.ty.Contents (Elt F))
    (P : ι → Finset s.Idx) (hd : ∀ a b i, i ∈ P a → i ∈ P b → a = b) (T : Finset ι) : ∀ (S : Finset s.Idx), (∀ i, i ∈ S ↔ ∃ a ∈ T, i ∈ P a) →
    ((At c m q S X : sProp 𝕄) ⊣⊢ bigSep T (fun a => At c m q (P a) X)) := by
  induction T using Finset.induction_on with
  | empty =>
    intro S hS
    have e : S = ∅ := Finset.eq_empty_of_forall_notMem fun i hi => by obtain ⟨a, ha, _⟩ := (hS i).mp hi; exact absurd ha (Finset.notMem_empty a)
    rw [e, bigSep_empty]
    exact ⟨by iintro -; iempintro, at_empty c m q X f⟩
  | insert a T ha ih =>
    intro S hS
    have h1 : P a ⊆ S := fun i hi => (hS i).mpr ⟨a, Finset.mem_insert_self a T, hi⟩
    have h2 := ih (S \ P a) fun i => by
      rw [Finset.mem_sdiff, hS]
      constructor
      · rintro ⟨⟨b, hb, hi⟩, hn⟩
        exact ⟨b, (Finset.mem_insert.mp hb).resolve_left fun e => hn (e ▸ hi), hi⟩
      · rintro ⟨b, hb, hi⟩
        exact ⟨⟨b, Finset.mem_insert_of_mem hb, hi⟩, fun hn => ha (hd a b i hn hi ▸ hb)⟩
    rw [bigSep_insert ha, ← BI.equiv_iff.mp ⟨h2.1, h2.2⟩]
    exact at_sdiff c m q h1 X

/-- The sixteen blocks, in the order the last phase writes them. -/
def blks : List (Fin 2 × Fin 8) := [(0, 0), (0, 1), (0, 2), (0, 3), (1, 0), (1, 1), (1, 2), (1, 3), (0, 4), (0, 5), (0, 6), (0, 7), (1, 4), (1, 5), (1, 6), (1, 7)]

theorem blk_disj (a b : Fin 2 × Fin 8) (i : S2048x4096.Idx) (h : i ∈ (rBlk a.1 a.2).set) (h' : i ∈ (rBlk b.1 b.2).set) : a = b := by
  rw [mem_blk] at h h'
  exact Prod.ext (Fin.ext (by omega)) (Fin.ext (by omega))

theorem blk_cover (i : S2048x4096.Idx) : i ∈ (Finset.univ : Finset S2048x4096.Idx) ↔ ∃ a ∈ (Finset.univ : Finset (Fin 2 × Fin 8)), i ∈ (rBlk a.1 a.2).set := by
  have h0 : (i 0).val < 2048 := (i 0).isLt
  have h1 : (i 1).val < 4096 := (i 1).isLt
  refine ⟨fun _ => ⟨(⟨(i 1).val / 2048, by omega⟩, ⟨(i 0).val / 256, by omega⟩), Finset.mem_univ _, mem_blk.mpr ?_⟩, fun _ => Finset.mem_univ i⟩
  dsimp only
  omega

theorem at_blocks (Y : Vec F S2048x4096 .f32) :
    (At c oA fullShare Finset.univ Y : sProp 𝕄) ⊣⊢ bigSepL blks (fun a => At c oA fullShare (rBlk a.1 a.2).set Y) := by
  have h1 : blks.Nodup := by decide +kernel
  have h2 : blks.toFinset = Finset.univ := by decide +kernel
  have h := at_big c oA fullShare Y Y (fun a : Fin 2 × Fin 8 => (rBlk a.1 a.2).set) blk_disj Finset.univ Finset.univ blk_cover
  rwa [bigSep_univ_eq_bigSepL blks h2.symm h1] at h

/-- All blocks of the result. -/
def oAll (P : Fin 2 → Fin 8 → sProp (MT nD τ sig ℕ (Elt F) ℕ UU ℕ)) : sProp (MT nD τ sig ℕ (Elt F) ℕ UU ℕ) :=
  iprop(P 0 0 ∗ P 0 1 ∗ P 0 2 ∗ P 0 3 ∗ P 1 0 ∗ P 1 1 ∗ P 1 2 ∗ P 1 3 ∗ P 0 4 ∗ P 0 5 ∗ P 0 6 ∗ P 0 7 ∗ P 1 4 ∗ P 1 5 ∗ P 1 6 ∗ P 1 7)

theorem oAll_list (P : Fin 2 → Fin 8 → sProp (MT nD τ sig ℕ (Elt F) ℕ UU ℕ)) : bigSepL blks (fun a => P a.1 a.2) = oAll P := by
  unfold blks oAll
  simp only [bigSepL_cons_cons, bigSepL_singleton]
  rfl

theorem oAll_start (Y : Vec F S2048x4096 .f32) : (At c oA fullShare Finset.univ Y : sProp 𝕄) ⊢ oAll (oAny c) := by
  have h := (at_blocks c Y).1
  rw [oAll_list (fun h b => At c oA fullShare (rBlk h b).set Y)] at h
  refine h.trans ?_
  have e : ∀ h b, (At c oA fullShare (rBlk h b).set Y : sProp 𝕄) ⊢ oAny c h b := fun h b => by unfold oAny; iintro H; iexists Y; iexact H
  unfold oAll
  exact BI.sep_mono (e _ _) (BI.sep_mono (e _ _) (BI.sep_mono (e _ _) (BI.sep_mono (e _ _) (BI.sep_mono (e _ _) (BI.sep_mono (e _ _) (BI.sep_mono (e _ _) (BI.sep_mono (e _ _)
    (BI.sep_mono (e _ _) (BI.sep_mono (e _ _) (BI.sep_mono (e _ _) (BI.sep_mono (e _ _) (BI.sep_mono (e _ _) (BI.sep_mono (e _ _) (BI.sep_mono (e _ _) (e _ _)))))))))))))))

theorem oAll_end : oAll (oDone X W c) ⊢ (At c oA fullShare Finset.univ (outAll X W c) : sProp 𝕄) := by
  rw [← oAll_list]
  exact (at_blocks c (outAll X W c)).2

/-! ## The last phase and the last waits -/

/-- What the last phase needs of the lanes, and what it leaves. -/
def lanes4 (P : Fin 2 → Fin 2 → sProp (MT nD τ sig ℕ (Elt F) ℕ UU ℕ)) : sProp (MT nD τ sig ℕ (Elt F) ℕ UU ℕ) := iprop(P 0 0 ∗ P 0 1 ∗ P 1 0 ∗ P 1 1)

theorem wp_finish {k : PUnit → Pr F α} :
    iprop(ctx X W K ∗ (xFree c (X c) ∗ At c wM fullShare (rHalf 0).set (wb (W c)) ∗ At c wM fullShare (rHalf 1).set (wb (W c)) ∗ Ow c 0)
        ∗ lanes4 (Arr c) ∗ (oFree c 0 ∗ oFree c 1) ∗ oAll (oAny c))
      ⊢ iprop((iprop((xFree c (X c) ∗ At c wM fullShare (rHalf 0).set (wb (W c)) ∗ At c wM fullShare (rHalf 1).set (wb (W c)) ∗ Ow c 0)
        ∗ lanes4 (Got X W c) ∗ (oFree c 0 ∗ oFree c 1) ∗ At c oA fullShare Finset.univ (outAll X W c)) -∗ wpc c (k ⟨⟩) Q)
          -∗ wpc c (finish (std c) >>= k) Q) := by
  unfold finish
  simp only [bind_assoc]
  unfold lanes4
  iintro ⟨#Hc, ⟨HX, M0, M1, HO⟩, ⟨A00, A01, A10, A11⟩, HF, HB⟩ Hk
  ihave HB := (Entails.of_eq (show oAll (oAny c) = (iprop((oAny c 0 0 ∗ oAny c 0 1 ∗ oAny c 0 2 ∗ oAny c 0 3 ∗ oAny c 1 0 ∗ oAny c 1 1 ∗ oAny c 1 2 ∗ oAny c 1 3 ∗ oAny c 0 4 ∗ oAny c 0 5 ∗ oAny c 0 6 ∗ oAny c 0 7 ∗ oAny c 1 4 ∗ oAny c 1 5 ∗ oAny c 1 6 ∗ oAny c 1 7)) : sProp 𝕄) from rfl)) $$ HB
  icases HB with ⟨B0, B1, B2, B3, C0, C1, C2, C3, B4, B5, B6, B7, C4, C5, C6, C7⟩
  iapply (wp_group0 X W K c) $$ [HX M0 HO A00 HF B0 B1 B2 B3]
  · isplitr; · iexact Hc
    isplitl [HX M0 HO A00]
    · unfold Pl Pool
      isplitr [A00]
      · isplitr [HO]
        · isplitl [HX] <;> iassumption
        iexact HO
      iexact A00
    isplitl [HF]; · iexact HF
    isplitl [B0]; · iexact B0
    isplitl [B1]; · iexact B1
    isplitl [B2] <;> iassumption
  unfold Pl Pool
  iintro ⟨⟨⟨⟨HX, M0⟩, HO⟩, G00⟩, HF, D0, D1⟩
  iapply (wp_group X W K c 0 1 0 1 2 3 rfl rfl rfl rfl 0 2 3) $$ [HX M1 HO A01 HF C0 C1 C2 C3]
  · isplitr; · iexact Hc
    isplitl [HX M1 HO A01]
    · unfold Pl Pool
      isplitr [A01]
      · isplitr [HO]
        · isplitl [HX] <;> iassumption
        iexact HO
      iexact A01
    isplitl [HF]; · iexact HF
    isplitl [C0]; · iexact C0
    isplitl [C1]; · iexact C1
    isplitl [C2] <;> iassumption
  unfold Pl Pool
  iintro ⟨⟨⟨⟨HX, M1⟩, HO⟩, G01⟩, HF, D2, D3, E0, E1⟩
  iapply (wp_group X W K c 1 0 4 5 6 7 rfl rfl rfl rfl 1 2 3) $$ [HX M0 HO A10 HF B4 B5 B6 B7]
  · isplitr; · iexact Hc
    isplitl [HX M0 HO A10]
    · unfold Pl Pool
      isplitr [A10]
      · isplitr [HO]
        · isplitl [HX] <;> iassumption
        iexact HO
      iexact A10
    isplitl [HF]; · iexact HF
    isplitl [B4]; · iexact B4
    isplitl [B5]; · iexact B5
    isplitl [B6] <;> iassumption
  unfold Pl Pool
  iintro ⟨⟨⟨⟨HX, M0⟩, HO⟩, G10⟩, HF, E2, E3, D4, D5⟩
  iapply (wp_group X W K c 1 1 4 5 6 7 rfl rfl rfl rfl 0 6 7) $$ [HX M1 HO A11 HF C4 C5 C6 C7]
  · isplitr; · iexact Hc
    isplitl [HX M1 HO A11]
    · unfold Pl Pool
      isplitr [A11]
      · isplitr [HO]
        · isplitl [HX] <;> iassumption
        iexact HO
      iexact A11
    isplitl [HF]; · iexact HF
    isplitl [C4]; · iexact C4
    isplitl [C5]; · iexact C5
    isplitl [C6] <;> iassumption
  unfold Pl Pool
  iintro ⟨⟨⟨⟨HX, M1⟩, HO⟩, G11⟩, ⟨F0, F1⟩, D6, D7, E4, E5⟩
  iapply (wp_outWait X W c 1 6 0 (above_zero 1)) $$ [F0 HO]
  · isplitr; · iapply (ctx_lev X W K); iexact Hc
    isplitl [F0] <;> iassumption
  iintro ⟨E6, F0, HO⟩
  iapply (wp_outWait X W c 1 7 1 (above_zero 1)) $$ [F1 HO]
  · isplitr; · iapply (ctx_lev X W K); iexact Hc
    isplitl [F1] <;> iassumption
  iintro ⟨E7, F1, HO⟩
  iapply Hk
  isplitl [HX M0 M1 HO]
  · isplitl [HX]; · iexact HX
    isplitl [M0]; · iexact M0
    isplitl [M1] <;> iassumption
  isplitl [G00 G01 G10 G11]
  · isplitl [G00]; · iexact G00
    isplitl [G01]; · iexact G01
    isplitl [G10] <;> iassumption
  isplitl [F0 F1]
  · isplitl [F0] <;> iassumption
  iapply (oAll_end X W c)
  unfold oAll
  isplitl [D0]; · iexact D0
  isplitl [D1]; · iexact D1
  isplitl [D2]; · iexact D2
  isplitl [D3]; · iexact D3
  isplitl [E0]; · iexact E0
  isplitl [E1]; · iexact E1
  isplitl [E2]; · iexact E2
  isplitl [E3]; · iexact E3
  isplitl [D4]; · iexact D4
  isplitl [D5]; · iexact D5
  isplitl [D6]; · iexact D6
  isplitl [D7]; · iexact D7
  isplitl [E4]; · iexact E4
  isplitl [E5]; · iexact E5
  isplitl [E6] <;> iassumption

end Finish

end Cert.KernelIdeal.Rs

end
-- ==== Proof.Ideal.Close.lean ====
/-
  Before and after the body: buffers in parts and whole again, and the cells closed.
-/
module

public import proofs.«01_k».proof.Proof.Ideal.Finish

@[expose] public section

set_option maxRecDepth 65536

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ
/-! ## Cells that nothing more is paid into -/

/-- The round from which a cell has no more duties. -/
def kend : Kd → ℕ
  | .bar => 1
  | .cred _ _ => 3
  | .send _ _ s => 2 - s.val
  | .recv _ _ s => 1 + s.val

theorem kduties_end (k : Kd) (r : ℕ) (h : kend k ≤ r) : kduties k r = ∅ := by
  cases k with
  | bar => have h' : 1 ≤ r := h; exact if_neg (by omega)
  | cred di l => have h' : 3 ≤ r := h; exact if_neg (by omega)
  | send di l s => have h' : 2 - s.val ≤ r := h; exact if_neg (by omega)
  | recv di l s => have h' : 1 + s.val ≤ r := h; exact if_neg (by omega)

section Close
variable (X : Dev nD → Vec F S8192x2048 .f32) (W : Dev nD → Vec F S2048x4096 .f32) (K : Dev nD × Kd → ℕ)
variable (c : Dev nD)

/-- At its last round a cell closes: its counter is back, at zero. -/
theorem close_k (k : Kd) (R : ℕ) (hR : kend k = R) : iprop(ctx X W K ∗ atPos ER (kcell (c, k)) R ∅ 0) ⊢ iprop(|={Set.univ}=> semVal (kcell (c, k)) 0) := by
  subst hR
  iintro ⟨#Hc, Hat⟩
  iapply (Rounds.cell_close ER (Rd X W) (Set.mem_univ (K (c, k))) (fun h => h) (R := kend k)
    (fun r hr => (duties_k X W c k r).trans (kduties_end k r hr)))
  isplitr; · iapply (ctx_inv X W K c k); iexact Hc
  iexact Hat

/-- The counters of a lane and direction. -/
def laneZ (l di : Fin 2) : sProp (MT nD τ sig ℕ (Elt F) ℕ UU ℕ) :=
  iprop(semVal (credCell c di l) 0 ∗ semVal (sendCell c di l 0) 0 ∗ semVal (sendCell c di l 1) 0 ∗ semVal (recvCell c di l 0) 0 ∗ semVal (recvCell c di l 1) 0)

/-- A lane and direction after its last wait. -/
def laneEnd (l di : Fin 2) : sProp (MT nD τ sig ℕ (Elt F) ℕ UU ℕ) :=
  iprop(atPos ER (credCell c di l) 3 ∅ 0 ∗ atPos ER (sendCell c di l 0) 2 ∅ 0 ∗ atPos ER (sendCell c di l 1) 1 ∅ 0 ∗ atPos ER (recvCell c di l 0) 1 ∅ 0 ∗ atPos ER (recvCell c di l 1) 2 ∅ 0)

theorem close_lane (l di : Fin 2) : iprop(ctx X W K ∗ laneEnd c l di) ⊢ iprop(|={Set.univ}=> laneZ (F := F) c l di) := by
  unfold laneEnd laneZ
  iintro ⟨#Hc, A, B0, B1, C0, C1⟩
  imod (close_k X W K c (.cred di l) 3 rfl) $$ [A] with Z
  · isplitr; · iexact Hc
    iexact A
  imod (close_k X W K c (.send di l 0) 2 rfl) $$ [B0] with Z1
  · isplitr; · iexact Hc
    iexact B0
  imod (close_k X W K c (.send di l 1) 1 rfl) $$ [B1] with Z2
  · isplitr; · iexact Hc
    iexact B1
  imod (close_k X W K c (.recv di l 0) 1 rfl) $$ [C0] with Z3
  · isplitr; · iexact Hc
    iexact C0
  imod (close_k X W K c (.recv di l 1) 2 rfl) $$ [C1] with Z4
  · isplitr; · iexact Hc
    iexact C1
  imodintro
  isplitl [Z]; · iexact Z
  isplitl [Z1]; · iexact Z1
  isplitl [Z2]; · iexact Z2
  isplitl [Z3]; · iexact Z3
  iexact Z4

/-! ## Buffers in parts and whole again -/

/-- The four slots of a communication buffer. -/
def slot4 : Fin 4 → Finset S2x2x1024x2048.Idx
  | 0 => (rSlot 0 0).set
  | 1 => (rSlot 0 1).set
  | 2 => (rSlot 1 0).set
  | 3 => (rSlot 1 1).set

theorem mem_slot4 (b : Fin 4) (i : S2x2x1024x2048.Idx) : i ∈ slot4 b ↔ 2 * (i 0).val + (i 1).val = b.val := by
  have h1 : (i 1).val < 2 := (i 1).isLt
  match b with
  | 0 => exact mem_slot.trans ⟨fun h => by simp only [Fin.val_zero, Fin.val_one] at h ⊢; omega, fun h => by simp only [Fin.val_zero, Fin.val_one] at h ⊢; omega⟩
  | 1 => exact mem_slot.trans ⟨fun h => by simp only [Fin.val_zero, Fin.val_one] at h ⊢; omega, fun h => by simp only [Fin.val_zero, Fin.val_one] at h ⊢; omega⟩
  | 2 => exact mem_slot.trans ⟨fun h => by have h2 : ((2 : Fin 4) : ℕ) = 2 := rfl; simp only [Fin.val_zero, Fin.val_one] at h ⊢; omega, fun h => by have h2 : ((2 : Fin 4) : ℕ) = 2 := rfl; simp only [Fin.val_zero, Fin.val_one] at h ⊢; omega⟩
  | 3 => exact mem_slot.trans ⟨fun h => by have h2 : ((3 : Fin 4) : ℕ) = 3 := rfl; simp only [Fin.val_zero, Fin.val_one] at h ⊢; omega, fun h => by have h2 : ((3 : Fin 4) : ℕ) = 3 := rfl; simp only [Fin.val_zero, Fin.val_one] at h ⊢; omega⟩

theorem comm_slots (di : Fin 2) (Y : Vec F S2x2x1024x2048 .bf16) : (At c (comm di) fullShare Finset.univ Y : sProp 𝕄)
    ⊣⊢ iprop(At c (comm di) fullShare (rSlot 0 0).set Y ∗ At c (comm di) fullShare (rSlot 0 1).set Y ∗ At c (comm di) fullShare (rSlot 1 0).set Y ∗ At c (comm di) fullShare (rSlot 1 1).set Y) :=
  at_four c (comm di) fullShare slot4 Finset.univ
    (fun i => ⟨fun _ => ⟨⟨2 * (i 0).val + (i 1).val, by have h0 : (i 0).val < 2 := (i 0).isLt; have h1 : (i 1).val < 2 := (i 1).isLt; omega⟩, (mem_slot4 _ i).mpr rfl⟩, fun _ => Finset.mem_univ i⟩)
    (fun b b' i h h' => Fin.ext (((mem_slot4 b i).mp h).symm.trans ((mem_slot4 b' i).mp h'))) Y

theorem at_slotAny (di l s : Fin 2) (Y : Vec F S2x2x1024x2048 .bf16) : (At c (comm di) fullShare (rSlot l s).set Y : sProp 𝕄) ⊢ slotAny c di l s := by
  unfold slotAny
  iintro H; iexists _
  iapply (at_squeeze c (comm di) fullShare (rSlot l s) (fun _ => rfl) squeezes_S1x1x1024x2048_S1024x2048 Y); iexact H

theorem comm_split (di : Fin 2) (Y : Vec F S2x2x1024x2048 .bf16) : (At c (comm di) fullShare Finset.univ Y : sProp 𝕄)
    ⊢ iprop(slotAny c di 0 0 ∗ slotAny c di 0 1 ∗ slotAny c di 1 0 ∗ slotAny c di 1 1) :=
  (comm_slots c di Y).1.trans (BI.sep_mono (at_slotAny c di 0 0 Y) (BI.sep_mono (at_slotAny c di 0 1 Y) (BI.sep_mono (at_slotAny c di 1 0 Y) (at_slotAny c di 1 1 Y))))

/-- Four slots' contents as one buffer's. -/
def glue4 (V : Fin 2 → Fin 2 → Vec F S1024x2048 .bf16) : Vec F S2x2x1024x2048 .bf16 := fun i => cslot (V (i 0) (i 1)) i

theorem glue4_at (V : Fin 2 → Fin 2 → Vec F S1024x2048 .bf16) (l s : Fin 2) (i : S2x2x1024x2048.Idx) (h : i ∈ (rSlot l s).set) : cslot (V l s) i = glue4 V i := by
  obtain ⟨h0, h1⟩ := mem_slot.mp h
  have e0 : (i 0 : Fin 2) = l := Fin.ext h0
  have e1 : (i 1 : Fin 2) = s := Fin.ext h1
  show cslot (V l s) i = cslot (V (i 0 : Fin 2) (i 1 : Fin 2)) i
  rw [e0, e1]

theorem comm_join (di : Fin 2) : iprop(slotAny c di 0 0 ∗ slotAny c di 0 1 ∗ slotAny c di 1 0 ∗ slotAny c di 1 1)
    ⊢ (iprop(∃ Y : Vec F S2x2x1024x2048 .bf16, At c (comm di) fullShare Finset.univ Y) : sProp 𝕄) := by
  iintro ⟨H0, H1, H2, H3⟩
  ihave H0 := (slotAny_is c di 0 0) $$ H0
  icases H0 with ⟨%V0, H0⟩
  ihave H1 := (slotAny_is c di 0 1) $$ H1
  icases H1 with ⟨%V1, H1⟩
  ihave H2 := (slotAny_is c di 1 0) $$ H2
  icases H2 with ⟨%V2, H2⟩
  ihave H3 := (slotAny_is c di 1 1) $$ H3
  icases H3 with ⟨%V3, H3⟩
  let V : Fin 2 → Fin 2 → Vec F S1024x2048 .bf16 := fun l s => match l, s with | 0, 0 => V0 | 0, 1 => V1 | 1, 0 => V2 | 1, 1 => V3
  iexists (glue4 V)
  ihave H0 := (slot_at c di 0 0 V0) $$ H0
  ihave H0 := (at_congr c (Y := glue4 V) (glue4_at V 0 0)) $$ H0
  ihave H1 := (slot_at c di 0 1 V1) $$ H1
  ihave H1 := (at_congr c (Y := glue4 V) (glue4_at V 0 1)) $$ H1
  ihave H2 := (slot_at c di 1 0 V2) $$ H2
  ihave H2 := (at_congr c (Y := glue4 V) (glue4_at V 1 0)) $$ H2
  ihave H3 := (slot_at c di 1 1 V3) $$ H3
  ihave H3 := (at_congr c (Y := glue4 V) (glue4_at V 1 1)) $$ H3
  iapply (comm_slots c di (glue4 V)).2
  isplitl [H0]; · iexact H0
  isplitl [H1]; · iexact H1
  isplitl [H2] <;> iassumption

theorem stage_two (Y : Vec F S2x256x2048 .f32) : (At c sM fullShare Finset.univ Y : sProp 𝕄)
    ⊣⊢ iprop(At c sM fullShare (rStage 0).set Y ∗ At c sM fullShare (rStage 1).set Y) :=
  at_two c sM fullShare (fun s => (rStage s).set) Finset.univ
    (fun i => ⟨fun _ => ⟨⟨(i 0).val, (i 0).isLt⟩, mem_stage.mpr rfl⟩, fun _ => Finset.mem_univ i⟩)
    (fun b b' i h h' => Fin.ext ((mem_stage.mp h).symm.trans (mem_stage.mp h'))) Y

theorem stage_split (Y : Vec F S2x256x2048 .f32) : (At c sM fullShare Finset.univ Y : sProp 𝕄) ⊢ iprop(stageAny c 0 ∗ stageAny c 1) := by
  have h : ∀ s, (At c sM fullShare (rStage s).set Y : sProp 𝕄) ⊢ stageAny c s := fun s => by
    unfold stageAny
    iintro H; iexists _
    iapply (at_squeeze c sM fullShare (rStage s) (fun _ => rfl) squeezes_S1x256x2048_S256x2048 Y); iexact H
  exact (stage_two c Y).1.trans (BI.sep_mono (h 0) (h 1))

theorem stage_join : iprop(stageAny c 0 ∗ stageAny c 1) ⊢ (iprop(∃ Y : Vec F S2x256x2048 .f32, At c sM fullShare Finset.univ Y) : sProp 𝕄) := by
  unfold stageAny
  iintro ⟨⟨%V0, H0⟩, ⟨%V1, H1⟩⟩
  let Z : Vec F S2x256x2048 .f32 := fun i => if (i 0).val = 0 then stg V0 i else stg V1 i
  iexists Z
  ihave H0 := (squeeze_at c sM fullShare (rStage 0) (fun _ => rfl) squeezes_S1x256x2048_S256x2048 V0 (stg V0) (stg_squeeze _ 0)) $$ H0
  ihave H0 := (at_congr c (Y := Z) (fun i hi => (if_pos (mem_stage.mp hi)).symm)) $$ H0
  ihave H1 := (squeeze_at c sM fullShare (rStage 1) (fun _ => rfl) squeezes_S1x256x2048_S256x2048 V1 (stg V1) (stg_squeeze _ 1)) $$ H1
  ihave H1 := (at_congr c (Y := Z) (fun i hi => (if_neg (by rw [mem_stage.mp hi]; decide)).symm)) $$ H1
  iapply (stage_two c Z).2
  isplitl [H0] <;> iassumption

theorem weight_halves (Y : Vec F S2048x4096 .bf16) : (At c wM fullShare Finset.univ Y : sProp 𝕄)
    ⊣⊢ iprop(At c wM fullShare (rHalf 0).set Y ∗ At c wM fullShare (rHalf 1).set Y) :=
  at_two c wM fullShare (fun h => (rHalf h).set) Finset.univ
    (fun i => ⟨fun _ => ⟨⟨(i 1).val / 2048, by have h1 : (i 1).val < 4096 := (i 1).isLt; omega⟩, mem_half.mpr (by dsimp only; omega)⟩, fun _ => Finset.mem_univ i⟩)
    (fun b b' i h h' => Fin.ext (by have e := mem_half.mp h; have e' := mem_half.mp h'; omega)) Y

/-- Two half shares of the weights are the whole again. -/
theorem w_join (V : Vec F S2048x4096 .f32) : iprop(At c wA fullShare.left Finset.univ V ∗ At c wA fullShare.right Finset.univ V)
    ⊢ (((c : Thread nD τ).loc main_arg1) ↦{fullShare} V : sProp 𝕄) := by
  iintro ⟨H0, H1⟩
  ihave H0 := (at_whole c main_arg1 fullShare.left V) $$ H0
  ihave H1 := (at_whole c main_arg1 fullShare.right V) $$ H1
  iapply (pointsTo_share (PosShare.mem_left_op_right fullShare)).2
  isplitl [H0] <;> iassumption

end Close
-- ==== Proof.Ideal.Body.lean ====
/-
  The whole body of a device: from its buffers, tokens and credits to the result, the arguments kept and every counter at zero.
-/
module

public import proofs.«01_k».proof.Proof.Ideal.Close

@[expose] public section

set_option maxRecDepth 65536

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ
section Body
variable (X : Dev nD → Vec F S8192x2048 .f32) (W : Dev nD → Vec F S2048x4096 .f32) (K : Dev nD × Kd → ℕ)
variable (c : Dev nD) {α : Type} {Q : α → sProp (MT nD τ sig ℕ (Elt F) ℕ UU ℕ)}

/-- An end of the steps, all of a lane, direction and hop after a given one. -/
theorem after_le {a b : ℕ} (h : a ≤ b) {rest : List (Fin 3 × Fin 2 × Fin 2)} (hb : ∀ e ∈ rest, b ≤ 2 * kk e.1 e.2.1 e.2.2 + 2) :
    ∀ e ∈ rest, a ≤ 2 * kk e.1 e.2.1 e.2.2 + 2 := fun e he => h.trans (hb e he)
theorem after_cons {a : ℕ} {e : Fin 3 × Fin 2 × Fin 2} {rest : List (Fin 3 × Fin 2 × Fin 2)} (h : a ≤ 2 * kk e.1 e.2.1 e.2.2 + 2)
    (hb : ∀ e ∈ rest, a ≤ 2 * kk e.1 e.2.1 e.2.2 + 2) : ∀ e' ∈ e :: rest, a ≤ 2 * kk e'.1 e'.2.1 e'.2.2 + 2 :=
  List.forall_mem_cons.mpr ⟨h, hb⟩

/-- The four steps of a hop. -/
def steps4 (h : Fin 3) (rest : List (Fin 3 × Fin 2 × Fin 2)) : List (Fin 3 × Fin 2 × Fin 2) := (h, 0, 0) :: (h, 0, 1) :: (h, 1, 0) :: (h, 1, 1) :: rest

/-- What every step uses: `x` and its staging buffer, the cast weights, what is owed. -/
def Com (O : CellTallies nD τ sig ℕ) : sProp (MT nD τ sig ℕ (Elt F) ℕ UU ℕ) :=
  iprop(xFree c (X c) ∗ At c wM fullShare (rHalf 0).set (wb (W c)) ∗ At c wM fullShare (rHalf 1).set (wb (W c)) ∗ Ow c O)

/-- A hop in every lane and direction. -/
theorem wp_hops (h h' : Fin 3) (hh : h'.val = h.val + 1) (s r : Fin 2) (hs : sl h' = s) (hr : ot h' = r) (hr' : sl h = r) (hs' : ot h = s)
    (rest : List (Fin 3 × Fin 2 × Fin 2)) (hrest : ∀ e ∈ rest, 2 * kk h' 1 1 + 3 ≤ 2 * kk e.1 e.2.1 e.2.2 + 2) {k : PUnit → Pr F α} :
    iprop(ctx X W K ∗ Com X W c (owedL c (steps4 h' rest)) ∗ lanes4 (fun l di => iprop(S c h l di r s ∗ Rc c h l di ∗ Tk c h' l di)))
      ⊢ iprop((iprop(Com X W c (owedL c rest) ∗ lanes4 (fun l di => S c h' l di s r)) -∗ wpc c (k ⟨⟩) Q)
        -∗ wpc c (hop (std c) h' 0 0 s r >>= fun _ => hop (std c) h' 0 1 s r >>= fun _ => hop (std c) h' 1 0 s r >>= fun _ => hop (std c) h' 1 1 s r >>= k) Q) := by
  have k0 (l di : Fin 2) : kk h l di = 4 * h.val + 2 * l.val + di.val := rfl
  have k1 (l di : Fin 2) : kk h' l di = 4 * h'.val + 2 * l.val + di.val := rfl
  have v0 : ((0 : Fin 2) : ℕ) = 0 := rfl
  have v1 : ((1 : Fin 2) : ℕ) = 1 := rfl
  have r3 (a : ℕ) (ha : a ≤ 2 * kk h' 1 1 + 2) : ∀ e ∈ (h', 1, 1) :: rest, a ≤ 2 * kk e.1 e.2.1 e.2.2 + 2 :=
    after_cons ha (after_le (by omega) hrest)
  have r2 (a : ℕ) (ha : a ≤ 2 * kk h' 1 0 + 2) : ∀ e ∈ (h', 1, 0) :: (h', 1, 1) :: rest, a ≤ 2 * kk e.1 e.2.1 e.2.2 + 2 :=
    after_cons ha (r3 a (by have := k1 1 0; have := k1 1 1; omega))
  have r1 (a : ℕ) (ha : a ≤ 2 * kk h' 0 1 + 2) : ∀ e ∈ (h', 0, 1) :: (h', 1, 0) :: (h', 1, 1) :: rest, a ≤ 2 * kk e.1 e.2.1 e.2.2 + 2 :=
    after_cons ha (r2 a (by have := k1 0 1; have := k1 1 0; omega))
  have r0 (a : ℕ) (ha : a ≤ 2 * kk h' 0 0 + 2) : ∀ e ∈ (h', 0, 0) :: (h', 0, 1) :: (h', 1, 0) :: (h', 1, 1) :: rest, a ≤ 2 * kk e.1 e.2.1 e.2.2 + 2 :=
    after_cons ha (r1 a (by have := k1 0 0; have := k1 0 1; omega))
  unfold lanes4 Com steps4
  iintro ⟨#Hc, ⟨HX, M0, M1, HO⟩, ⟨A, AR, AT⟩, ⟨B, BR, BT⟩, ⟨C, CR, CT⟩, ⟨D, DR, DT⟩⟩ Hk
  iapply (wp_hop X W K c h h' hh 0 0 s r hs hr hr' hs' _ (r0 _ (by have := k0 0 0; have := k1 0 0; omega)) (r1 _ (by have := k1 0 0; have := k1 0 1; omega))) $$ [HX M0 HO A AR AT]
  · isplitr; · iexact Hc
    isplitl [HX M0]
    · unfold Pool; isplitl [HX] <;> iassumption
    isplitl [A]; · iexact A
    isplitl [AR]; · iexact AR
    isplitl [AT] <;> iassumption
  unfold Pool
  iintro ⟨⟨HX, M0⟩, A, HO⟩
  iapply (wp_hop X W K c h h' hh 0 1 s r hs hr hr' hs' _ (r1 _ (by have := k0 0 1; have := k1 0 1; omega)) (r2 _ (by have := k1 0 1; have := k1 1 0; omega))) $$ [HX M1 HO B BR BT]
  · isplitr; · iexact Hc
    isplitl [HX M1]
    · unfold Pool; isplitl [HX] <;> iassumption
    isplitl [B]; · iexact B
    isplitl [BR]; · iexact BR
    isplitl [BT] <;> iassumption
  unfold Pool
  iintro ⟨⟨HX, M1⟩, B, HO⟩
  iapply (wp_hop X W K c h h' hh 1 0 s r hs hr hr' hs' _ (r2 _ (by have := k0 1 0; have := k1 1 0; omega)) (r3 _ (by have := k1 1 0; have := k1 1 1; omega))) $$ [HX M0 HO C CR CT]
  · isplitr; · iexact Hc
    isplitl [HX M0]
    · unfold Pool; isplitl [HX] <;> iassumption
    isplitl [C]; · iexact C
    isplitl [CR]; · iexact CR
    isplitl [CT] <;> iassumption
  unfold Pool
  iintro ⟨⟨HX, M0⟩, C, HO⟩
  iapply (wp_hop X W K c h h' hh 1 1 s r hs hr hr' hs' _ (r3 _ (by have := k0 1 1; have := k1 1 1; omega)) hrest) $$ [HX M1 HO D DR DT]
  · isplitr; · iexact Hc
    isplitl [HX M1]
    · unfold Pool; isplitl [HX] <;> iassumption
    isplitl [D]; · iexact D
    isplitl [DR]; · iexact DR
    isplitl [DT] <;> iassumption
  unfold Pool
  iintro ⟨⟨HX, M1⟩, D, HO⟩
  iapply Hk
  isplitl [HX M0 M1 HO]
  · isplitl [HX]; · iexact HX
    isplitl [M0]; · iexact M0
    isplitl [M1] <;> iassumption
  isplitl [A]; · iexact A
  isplitl [B]; · iexact B
  isplitl [C] <;> iassumption

/-- The staging slots with the share of the weights each reads. -/
def wFrees : sProp (MT nD τ sig ℕ (Elt F) ℕ UU ℕ) := iprop(wFree c (W c) 0 fullShare.left ∗ wFree c (W c) 1 fullShare.right)

/-- The first hop in every lane and direction, the weights cast on the way. -/
theorem wp_first (Y : Vec F S2048x4096 .bf16) (rest : List (Fin 3 × Fin 2 × Fin 2)) (hrest : ∀ e ∈ rest, 2 * kk 0 1 1 + 3 ≤ 2 * kk e.1 e.2.1 e.2.2 + 2) {k : PUnit → Pr F α} :
    iprop(ctx X W K ∗ wFrees W c ∗ (xFree c (X c) ∗ At c wM fullShare (rHalf 0).set Y ∗ At c wM fullShare (rHalf 1).set Y ∗ Ow c (owedL c (steps4 0 rest)))
        ∗ lanes4 (fun l di => iprop(S0 c l di ∗ Tk c 0 l di)))
      ⊢ iprop((iprop(wFrees W c ∗ Com X W c (owedL c rest) ∗ lanes4 (fun l di => S c 0 l di 0 1)) -∗ wpc c (k ⟨⟩) Q)
        -∗ wpc c (wCast 0 >>= fun _ => hop0 (std c) 0 0 >>= fun _ => wCast 1 >>= fun _ => hop0 (std c) 0 1 >>= fun _ => hop0 (std c) 1 0 >>= fun _ => hop0 (std c) 1 1 >>= k) Q) := by
  have r3 (a : ℕ) (ha : a ≤ 8) : ∀ e ∈ ((0 : Fin 3), (1 : Fin 2), (1 : Fin 2)) :: rest, a ≤ 2 * kk e.1 e.2.1 e.2.2 + 2 :=
    after_cons (ha.trans (by decide)) (after_le (ha.trans (by decide)) hrest)
  have r2 (a : ℕ) (ha : a ≤ 6) : ∀ e ∈ ((0 : Fin 3), (1 : Fin 2), (0 : Fin 2)) :: (0, 1, 1) :: rest, a ≤ 2 * kk e.1 e.2.1 e.2.2 + 2 :=
    after_cons (ha.trans (by decide)) (r3 a (by omega))
  have r1 (a : ℕ) (ha : a ≤ 4) : ∀ e ∈ ((0 : Fin 3), (0 : Fin 2), (1 : Fin 2)) :: (0, 1, 0) :: (0, 1, 1) :: rest, a ≤ 2 * kk e.1 e.2.1 e.2.2 + 2 :=
    after_cons (ha.trans (by decide)) (r2 a (by omega))
  unfold lanes4 Com steps4 wFrees
  iintro ⟨#Hc, HW, ⟨HX, M0, M1, HO⟩, ⟨A, AT⟩, ⟨B, BT⟩, ⟨C, CT⟩, ⟨D, DT⟩⟩ Hk
  iapply (wp_wCast c (W c) 0 Y fullShare.left fullShare.right (above_owed c 1 _ (fun e _ => by omega))) $$ [HW M0 HO]
  · isplitr; · iapply (ctx_lev X W K); iexact Hc
    isplitl [HW]; · iexact HW
    isplitl [M0] <;> iassumption
  iintro ⟨HW, M0, HO⟩
  iapply (wp_hop0 X W K c 0 0 _ (r1 _ (by decide))) $$ [HX M0 HO A AT]
  · isplitr; · iexact Hc
    isplitl [HX M0]
    · unfold Pool; isplitl [HX] <;> iassumption
    isplitl [A]; · iexact A
    isplitl [AT] <;> iassumption
  unfold Pool
  iintro ⟨⟨HX, M0⟩, A, HO⟩
  iapply (wp_wCast c (W c) 1 Y fullShare.left fullShare.right (above_owed c 1 _ (fun e _ => by omega))) $$ [HW M1 HO]
  · isplitr; · iapply (ctx_lev X W K); iexact Hc
    isplitl [HW]; · iexact HW
    isplitl [M1] <;> iassumption
  iintro ⟨HW, M1, HO⟩
  iapply (wp_hop0 X W K c 0 1 _ (r2 _ (by decide))) $$ [HX M1 HO B BT]
  · isplitr; · iexact Hc
    isplitl [HX M1]
    · unfold Pool; isplitl [HX] <;> iassumption
    isplitl [B]; · iexact B
    isplitl [BT] <;> iassumption
  unfold Pool
  iintro ⟨⟨HX, M1⟩, B, HO⟩
  iapply (wp_hop0 X W K c 1 0 _ (r3 _ (by decide))) $$ [HX M0 HO C CT]
  · isplitr; · iexact Hc
    isplitl [HX M0]
    · unfold Pool; isplitl [HX] <;> iassumption
    isplitl [C]; · iexact C
    isplitl [CT] <;> iassumption
  unfold Pool
  iintro ⟨⟨HX, M0⟩, C, HO⟩
  iapply (wp_hop0 X W K c 1 1 _ hrest) $$ [HX M1 HO D DT]
  · isplitr; · iexact Hc
    isplitl [HX M1]
    · unfold Pool; isplitl [HX] <;> iassumption
    isplitl [D]; · iexact D
    isplitl [DT] <;> iassumption
  unfold Pool
  iintro ⟨⟨HX, M1⟩, D, HO⟩
  iapply Hk
  isplitl [HW]; · iexact HW
  isplitl [HX M0 M1 HO]
  · isplitl [HX]; · iexact HX
    isplitl [M0]; · iexact M0
    isplitl [M1] <;> iassumption
  isplitl [A]; · iexact A
  isplitl [B]; · iexact B
  isplitl [C] <;> iassumption

/-- A lane and direction between the last phase and the last waits. -/
def preEnd (l di : Fin 2) : sProp (MT nD τ sig ℕ (Elt F) ℕ UU ℕ) :=
  iprop(cred (tallyAt (sendCell c di l 0) 0 N) ∗ atPos ER (sendCell c di l 0) 1 ∅ 0
    ∗ atPos ER (credCell c di l) 3 ∅ 0 ∗ atPos ER (sendCell c di l 1) 1 ∅ 0 ∗ atPos ER (recvCell c di l 0) 1 ∅ 0)

/-- What is left of it once everything arrived. -/
theorem lane_split (l di : Fin 2) : iprop(S c 2 l di 0 1 ∗ Rc c 2 l di) ⊢ (iprop(preEnd c l di ∗ Arr c l di) : sProp 𝕄) := by
  unfold S preEnd Arr
  iintro ⟨⟨A, B, C, D, E, G, -, -⟩, R⟩
  isplitr [G R]
  · isplitl [A]; · iexact A
    isplitl [C]; · iexact C
    isplitl [B]; · iexact B
    isplitl [D]; · iexact D
    iexact E
  isplitl [R]; · iexact R
  iexact G

/-- The last wait of a lane and direction. -/
theorem wp_lastWait (l di : Fin 2) {k : PUnit → Pr F α} :
    iprop(ctx X W K ∗ (preEnd c l di ∗ Got X W c l di) ∗ Ow c 0)
      ⊢ iprop((iprop((laneEnd c l di ∗ slotAny c di l 0 ∗ slotAny c di l 1) ∗ Ow c 0) -∗ wpc c (k ⟨⟩) Q) -∗ wpc c (sendWait di l 0 1 >>= k) Q) := by
  unfold preEnd Got laneEnd
  iintro ⟨#Hc, ⟨⟨Hcr, A, B, C, D⟩, Hs, E⟩, HO⟩ Hk
  iapply (wp_sendWait X W K c di l 2 0 1 rfl (above_zero 1)) $$ [Hcr A HO]
  · isplitr; · iexact Hc
    isplitl [Hcr]; · iexact Hcr
    isplitl [HO]; · iexact HO
    iexact A
  iintro ⟨HO, A, -, H0⟩
  iapply Hk
  isplitr [HO]
  · isplitr [H0 Hs]
    · isplitl [B]; · iexact B
      isplitl [A]; · iexact A
      isplitl [C]; · iexact C
      isplitl [D] <;> iassumption
    isplitl [H0]; · iexact H0
    iapply (at_slotAny c di l 1 _); iexact Hs
  iexact HO

theorem wp_drain {k : PUnit → Pr F α} :
    iprop(ctx X W K ∗ lanes4 (fun l di => iprop(preEnd c l di ∗ Got X W c l di)) ∗ Ow c 0)
      ⊢ iprop((iprop(lanes4 (fun l di => iprop(laneEnd c l di ∗ slotAny c di l 0 ∗ slotAny c di l 1)) ∗ Ow c 0) -∗ wpc c (k ⟨⟩) Q) -∗ wpc c (drain >>= k) Q) := by
  unfold drain lanes4
  simp only [bind_assoc]
  iintro ⟨#Hc, ⟨A, B, C, D⟩, HO⟩ Hk
  iapply (wp_lastWait X W K c 0 0) $$ [A HO]
  · isplitr; · iexact Hc
    isplitl [A] <;> iassumption
  iintro ⟨A, HO⟩
  iapply (wp_lastWait X W K c 0 1) $$ [B HO]
  · isplitr; · iexact Hc
    isplitl [B] <;> iassumption
  iintro ⟨B, HO⟩
  iapply (wp_lastWait X W K c 1 0) $$ [C HO]
  · isplitr; · iexact Hc
    isplitl [C] <;> iassumption
  iintro ⟨C, HO⟩
  iapply (wp_lastWait X W K c 1 1) $$ [D HO]
  · isplitr; · iexact Hc
    isplitl [D] <;> iassumption
  iintro ⟨D, HO⟩
  iapply Hk
  isplitr [HO]
  · isplitl [A]; · iexact A
    isplitl [B]; · iexact B
    isplitl [C] <;> iassumption
  iexact HO

theorem lanes_mono {P P' : Fin 2 → Fin 2 → sProp (MT nD τ sig ℕ (Elt F) ℕ UU ℕ)} (h : ∀ l di, P l di ⊢ P' l di) : lanes4 P ⊢ lanes4 P' :=
  BI.sep_mono (h 0 0) (BI.sep_mono (h 0 1) (BI.sep_mono (h 1 0) (h 1 1)))
theorem lanes_sep (P P' : Fin 2 → Fin 2 → sProp (MT nD τ sig ℕ (Elt F) ℕ UU ℕ)) : lanes4 (fun l di => iprop(P l di ∗ P' l di)) ⊣⊢ iprop(lanes4 P ∗ lanes4 P') := by
  unfold lanes4
  constructor
  · iintro ⟨⟨A, A'⟩, ⟨B, B'⟩, ⟨C, C'⟩, ⟨D, D'⟩⟩
    isplitl [A B C D]
    · isplitl [A]; · iexact A
      isplitl [B]; · iexact B
      isplitl [C] <;> iassumption
    isplitl [A']; · iexact A'
    isplitl [B']; · iexact B'
    isplitl [C'] <;> iassumption
  · iintro ⟨⟨A, B, C, D⟩, ⟨A', B', C', D'⟩⟩
    isplitl [A A']
    · isplitl [A] <;> iassumption
    isplitl [B B']
    · isplitl [B] <;> iassumption
    isplitl [C C']
    · isplitl [C] <;> iassumption
    isplitl [D] <;> iassumption

/-! ## The whole body -/

/-- All steps in program order. -/
def steps : List (Fin 3 × Fin 2 × Fin 2) := steps4 0 (steps4 1 (steps4 2 []))

/-- The ghost state of a lane and direction at the start: positions, then tokens and credits of its three hops. -/
def lanePos (l di : Fin 2) : sProp (MT nD τ sig ℕ (Elt F) ℕ UU ℕ) :=
  iprop(atPos ER (credCell c di l) 0 ∅ 0 ∗ atPos ER (sendCell c di l 0) 0 ∅ 0 ∗ atPos ER (sendCell c di l 1) 0 ∅ 0
    ∗ atPos ER (recvCell c di l 0) 0 ∅ 0 ∗ atPos ER (recvCell c di l 1) 0 ∅ 0)
def barG : sProp (MT nD τ sig ℕ (Elt F) ℕ UU ℕ) :=
  iprop(dutyTok ER (barCell (prv c)) 0 false ∗ dutyTok ER (barCell (nxt c)) 0 true ∗ cred (tallyAt (barCell c) 1 2) ∗ atPos ER (barCell c) 0 ∅ 0)
def bufs : sProp (MT nD τ sig ℕ (Elt F) ℕ UU ℕ) :=
  iprop((∃ f : cc0_scratch0.ty.Contents (Elt F), ((c : Thread nD τ).loc cc0_scratch0) ↦{fullShare} f) ∗ (∃ f : cc0_scratch1.ty.Contents (Elt F), ((c : Thread nD τ).loc cc0_scratch1) ↦{fullShare} f)
    ∗ (∃ f : cc0_scratch2.ty.Contents (Elt F), ((c : Thread nD τ).loc cc0_scratch2) ↦{fullShare} f) ∗ (∃ f : cc0_scratch3.ty.Contents (Elt F), ((c : Thread nD τ).loc cc0_scratch3) ↦{fullShare} f)
    ∗ (∃ f : cc0_scratch4.ty.Contents (Elt F), ((c : Thread nD τ).loc cc0_scratch4) ↦{fullShare} f))
def arrs (Y : main_v1.ty.Contents (Elt F)) : sProp (MT nD τ sig ℕ (Elt F) ℕ UU ℕ) :=
  iprop((((c : Thread nD τ).loc main_arg0) ↦{fullShare} X c) ∗ (((c : Thread nD τ).loc main_arg1) ↦{fullShare} W c) ∗ (((c : Thread nD τ).loc main_v1) ↦{fullShare} Y))
def locSems : sProp (MT nD τ sig ℕ (Elt F) ℕ UU ℕ) :=
  iprop(semVal ((c : Thread nD τ), SemLoc.dma copyS) 0 ∗ semVal ((c : Thread nD τ), SemLoc.dma (outS 0)) 0 ∗ semVal ((c : Thread nD τ), SemLoc.dma (outS 1)) 0)

/-- The body from its start to its end. -/
theorem wp_body (Y : main_v1.ty.Contents (Elt F)) {Q : PUnit → sProp (MT nD τ sig ℕ (Elt F) ℕ UU ℕ)} :
    iprop(ctx X W K ∗ barG c ∗ lanes4 (lanePos c) ∗ (lanes4 (Tk c 0) ∗ lanes4 (Tk c 1) ∗ lanes4 (Tk c 2)) ∗ (lanes4 (Rc c 0) ∗ lanes4 (Rc c 1) ∗ lanes4 (Rc c 2))
        ∗ bufs c ∗ arrs X W c Y ∗ locSems c ∗ Ow c (barT c (owedL c steps)))
      ⊢ iprop((iprop(semVal (barCell c) 0 ∗ lanes4 (laneZ c) ∗ bufs c ∗ arrs X W c (outAll X W c) ∗ locSems c ∗ Ow c 0) -∗ Q ⟨⟩)
        -∗ wpc c (prog (std c)) Q) := by
  rw [← bind_pure (prog (F := F) (std c))]
  unfold prog
  simp only [bind_assoc]
  unfold barG bufs arrs locSems
  iintro ⟨#Hc, ⟨T1, T2, Tc, Ab⟩, HP, ⟨K0, K1, K2⟩, ⟨R0, R1, R2⟩, ⟨⟨%f0, B0⟩, ⟨%f1, B1⟩, ⟨%f2, B2⟩, ⟨%f3, B3⟩, ⟨%f4, B4⟩⟩, ⟨HX, HW, HY⟩, ⟨Zc, Z0, Z1⟩, HO⟩ Hk
  iapply (wp_meet X W K c (above_owed c 2 steps (fun e _ => by omega))) $$ [T1 T2 Tc Ab HO]
  · isplitr; · iexact Hc
    isplitl [T1]; · iexact T1
    isplitl [T2]; · iexact T2
    isplitl [Tc]; · iexact Tc
    isplitl [Ab] <;> iassumption
  iintro ⟨HO, Ab⟩
  -- the buffers in their parts
  ihave B0 := (whole_at c cc0_scratch0 fullShare f0) $$ B0
  ihave B0 := (show (At c (Memref.whole cc0_scratch0) fullShare Finset.univ f0 : sProp 𝕄) ⊢ iprop(slotAny c 0 0 0 ∗ slotAny c 0 0 1 ∗ slotAny c 0 1 0 ∗ slotAny c 0 1 1) from comm_split c 0 f0) $$ B0
  icases B0 with ⟨S00, S01, S02, S03⟩
  ihave B1 := (whole_at c cc0_scratch1 fullShare f1) $$ B1
  ihave B1 := (show (At c (Memref.whole cc0_scratch1) fullShare Finset.univ f1 : sProp 𝕄) ⊢ iprop(slotAny c 1 0 0 ∗ slotAny c 1 0 1 ∗ slotAny c 1 1 0 ∗ slotAny c 1 1 1) from comm_split c 1 f1) $$ B1
  icases B1 with ⟨S10, S11, S12, S13⟩
  ihave B2 := (whole_at c cc0_scratch2 fullShare f2) $$ B2
  ihave B2 := (weight_halves c f2).1 $$ B2
  icases B2 with ⟨M0, M1⟩
  ihave B3 := (whole_at c cc0_scratch3 fullShare f3) $$ B3
  ihave B3 := (at_owns c xM fullShare f3) $$ B3
  ihave B4 := (whole_at c cc0_scratch4 fullShare f4) $$ B4
  ihave B4 := (stage_split c f4) $$ B4
  icases B4 with ⟨G0, G1⟩
  ihave HX := (whole_at c main_arg0 fullShare (X c)) $$ HX
  ihave HW := (whole_at c main_arg1 fullShare (W c)) $$ HW
  ihave HW := (at_halves c wA Finset.univ (W c)) $$ HW
  icases HW with ⟨W0, W1⟩
  ihave HY := (whole_at c main_v1 fullShare Y) $$ HY
  ihave HY := (oAll_start c Y) $$ HY
  -- the hops
  ihave HL := (lanes_sep (S0 c) (Tk c 0)).2 $$ [HP S00 S01 S02 S03 S10 S11 S12 S13 K0]
  · isplitr [K0]
    · unfold lanes4 S0 lanePos
      icases HP with ⟨P0, P1, P2, P3⟩
      isplitl [P0 S00 S01]
      · isplitl [S00]; · iexact S00
        isplitl [S01]; · iexact S01
        iexact P0
      isplitl [P1 S10 S11]
      · isplitl [S10]; · iexact S10
        isplitl [S11]; · iexact S11
        iexact P1
      isplitl [P2 S02 S03]
      · isplitl [S02]; · iexact S02
        isplitl [S03]; · iexact S03
        iexact P2
      isplitl [S12]; · iexact S12
      isplitl [S13]; · iexact S13
      iexact P3
    iexact K0
  iapply (wp_first X W K c f2 (steps4 1 (steps4 2 [])) (by decide)) $$ [G0 G1 Z0 Z1 W0 W1 HX B3 Zc M0 M1 HO HL]
  · isplitr; · iexact Hc
    isplitl [G0 G1 Z0 Z1 W0 W1]
    · unfold wFrees wFree
      isplitl [G0 Z0 W0]
      · isplitl [G0]; · iexact G0
        isplitl [Z0] <;> iassumption
      isplitl [G1]; · iexact G1
      isplitl [Z1] <;> iassumption
    isplitr [HL]
    · isplitl [HX B3 Zc]
      · unfold xFree
        isplitl [HX]; · iexact HX
        isplitl [B3]; · iexists f3; iexact B3
        iexact Zc
      isplitl [M0]; · iexact M0
      isplitl [M1]; · iexact M1
      iexact HO
    iexact HL
  iintro ⟨HW, HM, HL⟩
  ihave HL := (lanes_sep (fun l di => S c 0 l di 0 1) (fun l di => iprop(Rc c 0 l di ∗ Tk c 1 l di))).2 $$ [HL R0 K1]
  · isplitl [HL]; · iexact HL
    iapply (lanes_sep (Rc c 0) (Tk c 1)).2
    isplitl [R0] <;> iassumption
  iapply (wp_hops X W K c 0 1 rfl 1 0 rfl rfl rfl rfl (steps4 2 []) (by decide)) $$ [HM HL]
  · isplitr; · iexact Hc
    isplitl [HM] <;> iassumption
  iintro ⟨HM, HL⟩
  ihave HL := (lanes_sep (fun l di => S c 1 l di 1 0) (fun l di => iprop(Rc c 1 l di ∗ Tk c 2 l di))).2 $$ [HL R1 K2]
  · isplitl [HL]; · iexact HL
    iapply (lanes_sep (Rc c 1) (Tk c 2)).2
    isplitl [R1] <;> iassumption
  iapply (wp_hops X W K c 1 2 rfl 0 1 rfl rfl rfl rfl [] (by decide)) $$ [HM HL]
  · isplitr; · iexact Hc
    isplitl [HM] <;> iassumption
  iintro ⟨HM, HL⟩
  -- the last phase
  ihave HL := (lanes_sep (fun l di => S c 2 l di 0 1) (Rc c 2)).2 $$ [HL R2]
  · isplitl [HL] <;> iassumption
  ihave HL := (lanes_mono (lane_split c)) $$ HL
  ihave HL := (lanes_sep (preEnd c) (Arr c)).1 $$ HL
  icases HL with ⟨HL, HA⟩
  unfold wFrees wFree
  icases HW with ⟨⟨G0, Z0, W0⟩, G1, Z1, W1⟩
  iapply (wp_finish X W K c) $$ [HM HA G0 Z0 G1 Z1 HY]
  · isplitr; · iexact Hc
    isplitl [HM]; · unfold Com; iexact HM
    isplitl [HA]; · iexact HA
    isplitr [HY]
    · unfold oFree
      isplitl [G0 Z0]
      · isplitl [G0] <;> iassumption
      isplitl [G1] <;> iassumption
    iexact HY
  iintro ⟨⟨HX, M0, M1, HO⟩, HA, HF, HY⟩
  ihave HL := (lanes_sep (preEnd c) (Got X W c)).2 $$ [HL HA]
  · isplitl [HL] <;> iassumption
  iapply (wp_drain X W K c) $$ [HL HO]
  · isplitr; · iexact Hc
    isplitl [HL] <;> iassumption
  unfold lanes4 oFree xFree
  iintro ⟨⟨⟨A, S00, S01⟩, ⟨B, S10, S11⟩, ⟨C, S02, S03⟩, ⟨D, S12, S13⟩⟩, HO⟩
  -- the cells close
  imod (close_k X W K c .bar 1 rfl) $$ [Ab] with Ab
  · isplitr; · iexact Hc
    iexact Ab
  imod (close_lane X W K c 0 0) $$ [A] with A
  · isplitr; · iexact Hc
    iexact A
  imod (close_lane X W K c 0 1) $$ [B] with B
  · isplitr; · iexact Hc
    iexact B
  imod (close_lane X W K c 1 0) $$ [C] with C
  · isplitr; · iexact Hc
    iexact C
  imod (close_lane X W K c 1 1) $$ [D] with D
  · isplitr; · iexact Hc
    iexact D
  icases HX with ⟨HX, ⟨%V, B3⟩, Zc⟩
  icases HF with ⟨⟨G0, Z0⟩, G1, Z1⟩
  iapply (wpc_ret c)
  iapply Hk
  isplitl [Ab]; · iexact Ab
  isplitl [A B C D]
  · isplitl [A]; · iexact A
    isplitl [B]; · iexact B
    isplitl [C] <;> iassumption
  isplitl [S00 S01 S02 S03 S10 S11 S12 S13 M0 M1 B3 G0 G1]
  · isplitl [S00 S01 S02 S03]
    · ihave H := (comm_join c 0) $$ [S00 S01 S02 S03]
      · isplitl [S00]; · iexact S00
        isplitl [S01]; · iexact S01
        isplitl [S02] <;> iassumption
      icases H with ⟨%f, H⟩
      iexists f
      iapply (at_whole c cc0_scratch0 fullShare f); iexact H
    isplitl [S10 S11 S12 S13]
    · ihave H := (comm_join c 1) $$ [S10 S11 S12 S13]
      · isplitl [S10]; · iexact S10
        isplitl [S11]; · iexact S11
        isplitl [S12] <;> iassumption
      icases H with ⟨%f, H⟩
      iexists f
      iapply (at_whole c cc0_scratch1 fullShare f); iexact H
    isplitl [M0 M1]
    · iexists (wb (W c))
      iapply (at_whole c cc0_scratch2 fullShare (wb (W c)))
      iapply (weight_halves c (wb (W c))).2
      isplitl [M0] <;> iassumption
    isplitl [B3]
    · iexists V
      iapply (at_whole c cc0_scratch3 fullShare V)
      iapply (owns_at c xM fullShare V); iexact B3
    ihave H := (stage_join c) $$ [G0 G1]
    · isplitl [G0] <;> iassumption
    icases H with ⟨%f, H⟩
    iexists f
    iapply (at_whole c cc0_scratch4 fullShare f); iexact H
  isplitl [HX W0 W1 HY]
  · isplitl [HX]; · iapply (at_whole c main_arg0 fullShare (X c)); iexact HX
    isplitl [W0 W1]
    · iapply (w_join c (W c))
      isplitl [W0] <;> iassumption
    iapply (at_whole c main_v1 fullShare (outAll X W c)); iexact HY
  isplitl [Zc Z0 Z1]
  · isplitl [Zc]; · iexact Zc
    isplitl [Z0] <;> iassumption
  iexact HO

end Body
-- ==== Proof.Ideal.Deal.lean ====
/-
  Dealing the launch: the cells and duty tokens of all devices, handed around the ring, and the credit of what is owed at launch.
-/
module

public import proofs.«01_k».proof.Proof.Ideal.Body

@[expose] public section

set_option maxRecDepth 65536

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ
section Deal
variable (X : Dev nD → Vec F S8192x2048 .f32) (W : Dev nD → Vec F S2048x4096 .f32)

/-! ## The cells and the tokens of all devices -/

theorem kcell_injective : Function.Injective (kcell : Dev nD × Kd → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- Every cell of every device. -/
def ringCells : Finset (GSem nD τ sig) := Finset.univ.map ⟨kcell, kcell_injective⟩

/-- The names of a device's duties: the two of its barrier cell; then a credit, a send and a receive duty for every step. -/
abbrev Du := Bool ⊕ (Fin 3 × (Fin 3 × Fin 2 × Fin 2))

/-- The cell, the round and the duty a name stands for. -/
def duty : Du → Kd × ℕ × Bool
  | .inl b => (.bar, 0, b)
  | .inr (0, h, l, di) => (.cred di l, h.val, false)
  | .inr (1, h, l, di) => (.send di l (sl h), h.val / 2, false)
  | .inr (2, h, l, di) => (.recv di l (ot h), h.val / 2, false)

theorem duty_inj : Function.Injective duty := by
  have h : ∀ a b : Bool ⊕ (Fin 3 × (Fin 3 × Fin 2 × Fin 2)), duty a = duty b → a = b := by
    rintro (b | ⟨w, s⟩) (b' | ⟨w', s'⟩)
    · revert b b'; decide
    · revert b w' s'; decide +kernel
    · revert b' w s; decide +kernel
    · have h' : ∀ x y : Fin 3 × (Fin 3 × Fin 2 × Fin 2), duty (.inr x) = duty (.inr y) → x = y := by decide +kernel
      exact fun e => congrArg Sum.inr (h' _ _ e)
  exact fun a b => h a b

/-- The token of a duty of a device's cell. -/
abbrev tokOf (cj : Dev nD × Du) : GSem nD τ sig × ℕ × Bool := (kcell (cj.1, (duty cj.2).1), (duty cj.2).2)

theorem tokOf_injective : Function.Injective (tokOf : Dev nD × Du → GSem nD τ sig × ℕ × Bool) := by
  rintro ⟨c, j⟩ ⟨c', j'⟩ h
  have h0 : kcell (c, (duty j).1) = kcell (c', (duty j').1) := congrArg Prod.fst h
  have h1 := kcell_injective h0
  have h2 : (duty j).2 = (duty j').2 := congrArg (fun x : GSem nD τ sig × ℕ × Bool => x.2) h
  have h3 : j = j' := duty_inj (Prod.ext (congrArg Prod.snd h1) h2)
  rw [h3, show c = c' from congrArg Prod.fst h1]

def ringToks : Finset (GSem nD τ sig × ℕ × Bool) := Finset.univ.map ⟨tokOf, tokOf_injective⟩

/-! ## Around the ring -/

def nxtP : Equiv.Perm (Dev nD) := ⟨nxt, prv, prv_nxt, nxt_prv⟩
def prvP : Equiv.Perm (Dev nD) := ⟨prv, nxt, nxt_prv, prv_nxt⟩
def dnP (di : Fin 2) : Equiv.Perm (Dev nD) := ⟨dnD di, upD di, up_dn di, dn_up di⟩
def upP (di : Fin 2) : Equiv.Perm (Dev nD) := ⟨upD di, dnD di, dn_up di, up_dn di⟩

/-- Whose cell a device pays a duty at. -/
def turn : Du → Equiv.Perm (Dev nD)
  | .inl false => prvP
  | .inl true => nxtP
  | .inr (0, _, _, di) => upP di
  | .inr (1, _, _, _) => Equiv.refl _
  | .inr (2, _, _, di) => dnP di

/-- The token of the duty `j` of device `c`'s cell. -/
def tok (c : Dev nD) (j : Du) : sProp (MT nD τ sig ℕ (Elt F) ℕ UU ℕ) := dutyTok ER (kcell (c, (duty j).1)) (duty j).2.1 (duty j).2.2

/-- The tokens of the duties of a device's own cells are together those of the duties the devices pay. -/
theorem toks_around : (bigSep Finset.univ fun c : Dev nD => bigSep Finset.univ fun j : Du => tok (F := F) c j : sProp 𝕄)
    = bigSep Finset.univ fun c : Dev nD => bigSep Finset.univ fun j : Du => tok (turn j c) j := by
  rw [Pipeline.bigSep_univ_comm, bigSep_congr (s := Finset.univ) (fun (j : Du) _ => bigSep_univ_equiv (turn j) (fun c : Dev nD => tok (F := F) c j)),
    Pipeline.bigSep_univ_comm]

/-- Brackets of a separating conjunction moved to the right. -/
theorem sep_flat (P Q R : sProp (MT nD τ sig ℕ (Elt F) ℕ UU ℕ)) : iprop((P ∗ Q) ∗ R) = iprop(P ∗ Q ∗ R) := equiv_iff.mp ⟨BI.sep_assoc, BI.sep_assoc'⟩

/-- What a device holds for every lane and direction of every hop. -/
theorem lanes_of (P : Fin 3 → Fin 2 → Fin 2 → sProp (MT nD τ sig ℕ (Elt F) ℕ UU ℕ)) :
    (bigSep Finset.univ fun s : Fin 3 × Fin 2 × Fin 2 => P s.1 s.2.1 s.2.2) = iprop(lanes4 (P 0) ∗ lanes4 (P 1) ∗ lanes4 (P 2)) := by
  rw [bigSep_univ_eq_bigSepL steps (by decide) (by decide)]
  unfold steps lanes4
  simp only [bigSepL_cons_cons, bigSepL_singleton, sep_flat]
  rfl

/-- The three duty tokens of a step. -/
def Tt (c : Dev nD) (h : Fin 3) (l di : Fin 2) : sProp (MT nD τ sig ℕ (Elt F) ℕ UU ℕ) :=
  iprop(dutyTok ER (credCell (upD di c) di l) h.val false ∗ dutyTok ER (sendCell c di l (sl h)) (h.val / 2) false
    ∗ dutyTok ER (recvCell (dnD di c) di l (ot h)) (h.val / 2) false)

/-- The tokens of the duties a device pays. -/
def payToks (c : Dev nD) : sProp (MT nD τ sig ℕ (Elt F) ℕ UU ℕ) :=
  iprop((dutyTok ER (barCell (prv c)) 0 false ∗ dutyTok ER (barCell (nxt c)) 0 true) ∗ lanes4 (Tt c 0) ∗ lanes4 (Tt c 1) ∗ lanes4 (Tt c 2))

theorem pay_eq (c : Dev nD) : (bigSep Finset.univ fun j : Du => tok (F := F) (turn j c) j : sProp 𝕄) = payToks c := by
  rw [BI.bigSep_univ_sum, bigSep_univ_prod, bigSep_univ_eq_bigSepL [false, true] (by decide) (by decide),
    bigSep_univ_eq_bigSepL [0, 1, 2] (by decide) (by decide)]
  simp only [bigSepL_cons_cons, bigSepL_singleton]
  unfold payToks
  rw [← lanes_of (Tt c)]
  unfold Tt
  rw [bigSep_sep', bigSep_sep']
  rfl

/-! ## A device's cells -/

/-- What a device holds of every one of its cells. -/
theorem kd_lanes (Φ : Kd → sProp (MT nD τ sig ℕ (Elt F) ℕ UU ℕ)) :
    bigSep Finset.univ Φ = iprop(Φ .bar ∗ lanes4 fun l di => iprop(Φ (.cred di l) ∗ Φ (.send di l 0) ∗ Φ (.send di l 1) ∗ Φ (.recv di l 0) ∗ Φ (.recv di l 1))) := by
  rw [bigSep_univ_eq_bigSepL [.bar, .cred 0 0, .send 0 0 0, .send 0 0 1, .recv 0 0 0, .recv 0 0 1, .cred 1 0, .send 1 0 0, .send 1 0 1, .recv 1 0 0, .recv 1 0 1,
    .cred 0 1, .send 0 1 0, .send 0 1 1, .recv 0 1 0, .recv 0 1 1, .cred 1 1, .send 1 1 0, .send 1 1 1, .recv 1 1 0, .recv 1 1 1] (by decide) (by decide)]
  unfold lanes4
  simp only [bigSepL_cons_cons, bigSepL_singleton, sep_flat]
  rfl

/-- The scoped semaphores: five of every lane and direction; the copies' and the results'. -/
def osem : (Fin 2 × Fin 2 × Fin 5) ⊕ Fin 3 → SemLoc sig
  | .inl (l, di, 0) => .reg (credS di l)
  | .inl (l, di, 1) => .dma (sendS di l 0)
  | .inl (l, di, 2) => .dma (sendS di l 1)
  | .inl (l, di, 3) => .dma (recvS di l 0)
  | .inl (l, di, 4) => .dma (recvS di l 1)
  | .inr 0 => .dma copyS
  | .inr 1 => .dma (outS 0)
  | .inr 2 => .dma (outS 1)

theorem ownSemFacts : Pipeline.OwnSemFacts cfg0.spec osem := by decide +kernel

theorem ownSems0_eq (c : Dev nD) :
    (Pipeline.ownSems0 (Ix := ℕ) (Name := ℕ) (U := UU) (Lvl := ℕ) (Val := Elt F) (τ := τ) osem c : sProp 𝕄) = iprop(lanes4 (laneZ c) ∗ locSems c) := by
  unfold Pipeline.ownSems0
  rw [BI.bigSep_univ_sum, bigSep_univ_eq_bigSepL ([0, 1, 2] : List (Fin 3)) (by decide) (by decide),
    bigSep_univ_eq_bigSepL [(0, 0, 0), (0, 0, 1), (0, 0, 2), (0, 0, 3), (0, 0, 4), (0, 1, 0), (0, 1, 1), (0, 1, 2), (0, 1, 3), (0, 1, 4),
      (1, 0, 0), (1, 0, 1), (1, 0, 2), (1, 0, 3), (1, 0, 4), (1, 1, 0), (1, 1, 1), (1, 1, 2), (1, 1, 3), (1, 1, 4)] (by decide) (by decide)]
  unfold lanes4 laneZ locSems
  have e (P Q R : sProp 𝕄) : BI.sep (BI.sep P Q) R = BI.sep P (BI.sep Q R) := sep_flat P Q R
  simp only [bigSepL_cons_cons, bigSepL_singleton, sep_flat, e]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## Dealing -/

/-- What the launch deals device `c`. -/
def G (c : Dev nD) : sProp (MT nD τ sig ℕ (Elt F) ℕ UU ℕ) :=
  iprop((bigSep Finset.univ fun k : Kd => roundState ER (Rd X W) (kcell (c, k)) 0)
    ∗ (bigSep Finset.univ fun k : Kd => iprop(atPos ER (kcell (c, k)) 0 ∅ 0 ∗ reached ER (kcell (c, k)) 0)) ∗ bigSep Finset.univ fun j : Du => tok c j)

theorem fund_ring : BI.own (ER (initOf ringCells ringToks)) ⊢ (|==> bigSep Finset.univ (G X W) : sProp 𝕄) := by
  have hX (Φ : GSem nD τ sig → sProp 𝕄) : bigSep ringCells Φ = bigSep Finset.univ fun c : Dev nD => bigSep Finset.univ fun k : Kd => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun j : Du => tok c j := by
    unfold ringToks; rw [bigSep_map, bigSep_univ_prod]; rfl
  iintro HX
  imod (Rounds.fund ER (Rd X W) ringCells ringToks) $$ HX with ⟨Hst, Hr, Hat, Htok⟩
  imodintro
  ihave Hst' := (Entails.of_eq (hX fun g => roundState ER (Rd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := ℕ) (Name := ℕ) (U := UU) (Lvl := ℕ) (Val := Elt F) (τ := τ) osem c ∗ unscopedSems0 c ∗ G X W c)
      ⊢ |={Set.univ}=> iprop((bigSep Finset.univ fun k => iprop(∃ κ : ℕ, cellInv ER (Rd X W) κ (kcell (c, k))))
          ∗ (bigSep Finset.univ fun k => iprop(atPos ER (kcell (c, k)) 0 ∅ 0 ∗ reached ER (kcell (c, k)) 0)) ∗ (bigSep Finset.univ fun j : Du => tok c j) ∗ locSems c) := by
  rw [ownSems0_eq, unscopedSems0_eq]
  unfold G
  iintro ⟨⟨Hl, Hloc⟩, Hb, Hst, Hat, Htok⟩
  ihave Hv := (Entails.of_eq (kd_lanes (F := F) fun k => semVal (kcell (c, k)) 0).symm) $$ [Hl Hb]
  · isplitl [Hb]; · iexact Hb
    iexact Hl
  imod (show iprop((bigSep Finset.univ fun k : Kd => semVal (kcell (c, k)) 0) ∗ bigSep Finset.univ fun k : Kd => roundState ER (Rd X W) (kcell (c, k)) 0)
      ⊢ (|={Set.univ}=> bigSep Finset.univ fun k => iprop(∃ κ : ℕ, cellInv ER (Rd X W) κ (kcell (c, k))) : sProp 𝕄) from by
        rw [← bigSep_sep']
        exact (bigSep_mono fun k _ => (Rounds.body_intro ER (Rd X W) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- Every cell's invariant and its first round reached. -/
def records (K : Dev nD × Kd → ℕ) : sProp (MT nD τ sig ℕ (Elt F) ℕ UU ℕ) :=
  iprop((bigSep Finset.univ fun ck : Dev nD × Kd => cellInv ER (Rd X W) (K ck) (kcell ck)) ∗ bigSep Finset.univ fun ck : Dev nD × Kd => reached ER (kcell ck) 0)

instance records_persistent (K : Dev nD × Kd → ℕ) : BI.Persistent (records X W K) := by unfold records; infer_instance

/-- What stays with device `c`: its positions, the tokens of the duties it pays and the counters it alone uses. -/
def linear (c : Dev nD) : sProp (MT nD τ sig ℕ (Elt F) ℕ UU ℕ) :=
  iprop((bigSep Finset.univ fun k : Kd => atPos ER (kcell (c, k)) 0 ∅ 0) ∗ payToks c ∗ locSems c)

/-- What device `c` has once the cells are set up. -/
def G' (c : Dev nD) : sProp (MT nD τ sig ℕ (Elt F) ℕ UU ℕ) := iprop(∃ K, records X W K ∗ linear c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd X W) κ (kcell (c, k))))
          ∗ (bigSep Finset.univ fun k => iprop(atPos ER (kcell (c, k)) 0 ∅ 0 ∗ reached ER (kcell (c, k)) 0)) ∗ (bigSep Finset.univ fun j : Du => tok c j) ∗ locSems c) : sProp 𝕄)
      ⊢ bigSep Finset.univ (G' X W) := by
  rw [bigSep_sep', bigSep_sep', bigSep_sep', ← bigSep_univ_prod (fun ck : Dev nD × Kd => iprop(∃ κ : ℕ, cellInv ER (Rd X W) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄)), toks_around,
    bigSep_congr (s := Finset.univ) (fun (c : Dev nD) _ => pay_eq (F := F) c)]
  iintro ⟨HI, ⟨Hat, #HR⟩, Htok, Hloc⟩
  ihave HK := (BI.bigSep_exists_pi Finset.univ (fun (ck : Dev nD × Kd) (κ : ℕ) => (cellInv ER (Rd X W) κ (kcell ck) : sProp 𝕄))) $$ HI
  icases HK with ⟨%K, #HI⟩
  iapply (bigSep_with_persistent (R := records X W K) (Φ := linear) (Ψ := G' X W) fun c _ => by
    unfold G'; iintro ⟨#H, Hl⟩; iexists K; isplitr; · iexact H
    iexact Hl)
  isplitr
  · unfold records; isplitl; · iexact HI
    iexact HR
  · unfold linear; rw [bigSep_sep', bigSep_sep']
    isplitl [Hat]; · iexact Hat
    isplitl [Htok] <;> iassumption

/-- The cells of every device set up at once. -/
theorem glob : (bigSep Finset.univ fun c => iprop(Pipeline.ownSems0 (Ix := ℕ) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

/-! ## The credit of what the devices owe at launch -/

/-- What every device owes at launch. -/
def O₀ (c : Dev nD) : CellTallies nD τ sig ℕ := barT c (owedL c steps)

/-- What is owed one cell around the ring is the credit of that cell. -/
theorem cred_turn (σ : Equiv.Perm (Dev nD)) (k : Kd) (i n : ℕ) (c : Dev nD) :
    (Pipeline.launchCred (fun d => tallyAt (kcell (σ d, k)) i n) c : sProp 𝕄) ⊢ cred (tallyAt (kcell (c, k)) i n) := by
  have h : tallyOn (kcell (c, k)) (launchCredit (Pipeline.owing fun d => tallyAt (kcell (σ d, k)) i n) 0 (kcell (c, k)))
      = (tallyAt (kcell (c, k)) i n : CellTallies nD τ sig ℕ) := by
    unfold tallyAt; refine congrArg _ (Finsupp.ext fun u => ?_)
    rw [Pipeline.launchCredit_owing, Finset.sum_eq_single (σ.symm c)]
    · show tallyAt (kcell (σ (σ.symm c), k)) i n (kcell (c, k)) u = _
      rw [Equiv.apply_symm_apply]; unfold tallyAt; rw [tallyOn_self]
    · intro d _ hd
      have hne : kcell (c, k) ≠ kcell (σ d, k) := fun h => hd (by rw [show c = σ d from congrArg Prod.fst (kcell_injective h), Equiv.symm_apply_apply])
      show tallyAt (kcell (σ d, k)) i n (kcell (c, k)) u = 0
      rw [tallyAt_ne_cell hne]; rfl
    · exact fun h => absurd (Finset.mem_univ _) h
  rw [← h]
  exact Pipeline.launchCred_elim _ c (csem k)

/-- A device's own credits for the steps of a list. -/
def credL (c : Dev nD) : List (Fin 3 × Fin 2 × Fin 2) → sProp (MT nD τ sig ℕ (Elt F) ℕ UU ℕ)
  | [] => iprop(emp)
  | (h, l, di) :: R => iprop((Rc c h l di ∗ cred (tallyAt (credCell c di l) (2 * kk h l di + 2) 1)) ∗ credL c R)

theorem cred_list (c : Dev nD) : ∀ R : List (Fin 3 × Fin 2 × Fin 2), (Pipeline.launchCred (fun d => owedL d R) c : sProp 𝕄) ⊢ credL c R
  | [] => by unfold credL; iintro -; iempintro
  | (h, l, di) :: R => by
    have e : (fun d : Dev nD => owedL d ((h, l, di) :: R)) = fun d => (fun d => (fun d => owedL d R) d + (fun d => sendT d h l di) d) d + (fun d => credT d h l di) d := rfl
    rw [e, Pipeline.launchCred_add, Pipeline.launchCred_add]
    unfold credL Rc
    iintro ⟨⟨HR, HS⟩, HC⟩
    isplitl [HS HC]
    · isplitl [HS]
      · iapply (cred_turn (dnP di) (.recv di l (ot h)) (2 * kk h l di + 3) N c); iexact HS
      · iapply (cred_turn (upP di) (.cred di l) (2 * kk h l di + 2) 1 c); iexact HC
    iapply (cred_list c R); iexact HR

/-- A device's credits at launch. -/
theorem creds (c : Dev nD) : (Pipeline.launchCred O₀ c : sProp 𝕄) ⊢ iprop(cred (tallyAt (barCell c) 1 2) ∗ credL c steps) := by
  have e : (O₀ : Dev nD → CellTallies nD τ sig ℕ)
      = fun d => (fun d => (fun d => owedL d steps) d + (fun d => tallyAt (barCell (nxt d)) 1 1) d) d + (fun d => tallyAt (barCell (prv d)) 1 1) d := rfl
  have e2 : (tallyAt (barCell c) 1 2 : CellTallies nD τ sig ℕ) = tallyAt (barCell c) 1 1 + tallyAt (barCell c) 1 1 := (tallyAt_add _ _ 1 1).symm
  rw [e, Pipeline.launchCred_add, Pipeline.launchCred_add, e2]
  iintro ⟨⟨HR, HN⟩, HP⟩
  isplitl [HN HP]
  · iapply (cred_add _ _).2
    isplitl [HN]
    · iapply (cred_turn nxtP .bar 1 1 c); iexact HN
    · iapply (cred_turn prvP .bar 1 1 c); iexact HP
  iapply (cred_list c steps); iexact HR

end Deal

end Cert.KernelIdeal.Rs

end
-- ==== Proof.Ideal.Run.lean ====
/-
  The run of the kernel on the four devices, from any memory to the computed blocks.
-/
module

public import proofs.«01_k».proof.Proof.Ideal.Deal

@[expose] public section

set_option maxRecDepth 65536

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig ℕ (Elt F) ℕ UU ℕ
section Run
variable (m : (ℓ : Loc nD τ sig) → Buf (Elt F) ℓ) (ρ : Dev nD → PrngReg)

/-- The blocks of `x` and of the weights the devices hold at launch. -/
def Xm (c : Dev nD) : Vec F S8192x2048 .f32 := m ((c : Thread nD τ).loc main_arg0)
def Wm (c : Dev nD) : Vec F S2048x4096 .f32 := m ((c : Thread nD τ).loc main_arg1)
def Ym (c : Dev nD) : main_v1.ty.Contents (Elt F) := m ((c : Thread nD τ).loc main_v1)

/-! ## Before and after the kernel -/

/-- What device `c` starts from, its staging buffers apart. -/
def start (c : Dev nD) : sProp (MT nD τ sig ℕ (Elt F) ℕ UU ℕ) :=
  iprop(∃ K, ctx (Xm m) (Wm m) K ∗ barG c ∗ lanes4 (lanePos c) ∗ (lanes4 (Tk c 0) ∗ lanes4 (Tk c 1) ∗ lanes4 (Tk c 2)) ∗ (lanes4 (Rc c 0) ∗ lanes4 (Rc c 1) ∗ lanes4 (Rc c 2))
    ∗ arrs (Xm m) (Wm m) c (Ym m c) ∗ locSems c)

/-- What it ends with. -/
def done (c : Dev nD) : sProp (MT nD τ sig ℕ (Elt F) ℕ UU ℕ) :=
  iprop(semVal (barCell c) 0 ∗ lanes4 (laneZ c) ∗ bufs c ∗ arrs (Xm m) (Wm m) c (outAll (Xm m) (Wm m) c) ∗ locSems c)

/-- The one point of the grid: what holds before and after it and what is owed. -/
def dats (_ : Fin 1) (c : Dev nD) : Pipeline.Dat τ (Elt F) ℕ ℕ UU ℕ cfg0 c where
  A w := w.elim0
  after w _ := w.elim0
  Φ t := match t with
    | ⟨0, _⟩ => iprop(start m c ∗ bufs c)
    | ⟨_ + 1, _⟩ => done m c
  q _ := fullShare
  owed t := match t with
    | ⟨0, _⟩ => O₀ c
    | ⟨_ + 1, _⟩ => 0

/-- The kernel on device `c`. -/
theorem sound_body (c : Dev nD) (Q : PUnit → sProp (MT nD τ sig ℕ (Elt F) ℕ UU ℕ)) :
    iprop((start m c ∗ bufs c) ∗ Ow c (O₀ c) ∗ (iprop(done m c ∗ Ow c 0) -∗ Q ⟨⟩)) ⊢ wpc c (bodyAt0 (F := F) t0_0) Q := by
  rw [body_flat]
  show _ ⊢ wp frame (wpE (defs₀ (F := F)) 𝒱₀ (c : Thread nD τ) none) Set.univ (Prog.lift .deviceId >>= fun d => prog (places d)) Q
  simp only [Prog.lift, Prog.bind_op, Prog.bind_ret, wp_deviceId]
  rw [show places c = std c from places_eq c]
  unfold start done
  iintro ⟨⟨⟨%K, #Hc, HB, HP, HT, HR, HA, HL⟩, Hb⟩, HO, Hk⟩
  iapply (wp_body (Xm m) (Wm m) K c (Ym m c)) $$ [HB HP HT HR HA HL Hb HO]
  · isplitr; · iexact Hc
    isplitl [HB]; · iexact HB
    isplitl [HP]; · iexact HP
    isplitl [HT]; · iexact HT
    isplitl [HR]; · iexact HR
    isplitl [Hb]; · iexact Hb
    isplitl [HA]; · iexact HA
    isplitl [HL]; · iexact HL
    iexact HO
  iintro ⟨HB, HZ, Hb, HA, HL, HO⟩
  iapply Hk
  isplitr [HO]
  · isplitl [HB]; · iexact HB
    isplitl [HZ]; · iexact HZ
    isplitl [Hb]; · iexact Hb
    isplitl [HA] <;> iassumption
  iexact HO

theorem no_windows (Φ : Fin cfg0.W → sProp (MT nD τ sig ℕ (Elt F) ℕ UU ℕ)) : bigSep Finset.univ Φ = iprop(emp) := by
  rw [show (Finset.univ : Finset (Fin cfg0.W)) = ∅ from rfl, bigSep_empty]
  rfl

theorem body_obligation (c : Dev nD)   : Pipeline.BodyObligation (dats (F := F) m 0 c) (defs₀ (F := F)) 𝒱₀ (0 : ℕ) Set.univ := fun t => by
  rw [fin_N0 t, no_windows, no_windows]
  show iprop((start m c ∗ bufs c) ∗ (dats m 0 c).owesAt 0 t0_0.castSucc ∗ emp)
    ⊢ wpc c (bodyAt0 (F := F) t0_0) fun _ => iprop(done m c ∗ (dats m 0 c).owesAt 0 t0_0.succ ∗ emp)
  unfold Pipeline.Dat.owesAt Pipeline.owesWithin
  iintro ⟨Hs, ⟨%V, %hV, HO⟩, -⟩
  iapply (sound_body m c)
  isplitl [Hs]; · iexact Hs
  isplitl [HO]; · unfold Ow; iexists V; iexact HO
  unfold Ow
  iintro ⟨Hd, ⟨%V', HO⟩⟩
  isplitl [Hd]; · iexact Hd
  isplitl [HO]
  · iexists V'
    isplitr; · ipureintro; exact fun _ _ => Or.inl trivial
    iexact HO
  iempintro

/-! ## The launch -/

def u₀ : UU := (initOf (Pipeline.cells cfgs cellOf_inj) (Pipeline.launchToks cfgs cellOf_inj), (initOf ringCells ringToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

/-- The credits of a list of the twelve steps, by kind. -/
theorem cred_lanes (c : Dev nD) : (credL c steps : sProp 𝕄)
    ⊢ iprop((lanes4 (Rc c 0) ∗ lanes4 (Rc c 1) ∗ lanes4 (Rc c 2))
      ∗ lanes4 (fun l di => cred (tallyAt (credCell c di l) (2 * kk 0 l di + 2) 1)) ∗ lanes4 (fun l di => cred (tallyAt (credCell c di l) (2 * kk 1 l di + 2) 1))
      ∗ lanes4 (fun l di => cred (tallyAt (credCell c di l) (2 * kk 2 l di + 2) 1))) := by
  have e : ∀ R : List (Fin 3 × Fin 2 × Fin 2), R ≠ [] → (credL c R : sProp 𝕄)
      = bigSepL R fun s => iprop(Rc c s.1 s.2.1 s.2.2 ∗ cred (tallyAt (credCell c s.2.2 s.2.1) (2 * kk s.1 s.2.1 s.2.2 + 2) 1)) := by
    intro R hR
    induction R with
    | nil => exact absurd rfl hR
    | cons a R ih =>
      obtain ⟨h, l, di⟩ := a
      rw [bigSepL_cons]
      cases R with
      | nil => rfl
      | cons b R => rw [← ih (List.cons_ne_nil _ _)]; rfl
  rw [e steps (by decide), ← bigSep_univ_eq_bigSepL steps (by decide) (by decide), bigSep_sep',
    lanes_of (fun h l di => Rc c h l di), lanes_of (fun h l di => cred (tallyAt (credCell c di l) (2 * kk h l di + 2) 1))]

/-- A step's duty tokens and credit. -/
theorem step_toks (c : Dev nD) (h : Fin 3) :
    iprop(lanes4 (Tt (F := F) c h) ∗ lanes4 (fun l di => cred (tallyAt (credCell c di l) (2 * kk h l di + 2) 1))) ⊢ lanes4 (Tk c h) := by
  refine (lanes_sep _ _).2.trans (lanes_mono fun l di => ?_)
  unfold Tt Tk
  iintro ⟨⟨H1, H2, H3⟩, H4⟩
  isplitl [H1]; · iexact H1
  isplitl [H2]; · iexact H2
  isplitl [H3] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Xm m) (Wm m) c)
      ⊢ |={Set.univ}=> iprop(start m c ∗ emp) := by
  rw [Pipeline.unscopedRestP_none, unscopedRest0_eq]
  unfold G' records linear payToks
  rw [kd_lanes]
  iintro ⟨HA, #Hlev, Hcr, -, ⟨%K, ⟨#HI, #HR⟩, ⟨HPb, HP⟩, ⟨⟨HT1, HT2⟩, HT⟩, HL⟩⟩
  ihave Hc := (creds (F := F) c) $$ Hcr
  icases Hc with ⟨Hb, Hcr⟩
  ihave Hcr' := (cred_lanes (F := F) c) $$ Hcr
  icases Hcr' with ⟨HRc, HC0, HC1, HC2⟩
  icases HT with ⟨T0, T1, T2⟩
  imodintro
  isplitl
  · unfold start
    iexists K
    isplitr
    · unfold ctx
      isplitr; · iexact Hlev
      isplitr; · iexact HI
      iexact HR
    isplitl [HT1 HT2 Hb HPb]
    · unfold barG
      isplitl [HT1]; · iexact HT1
      isplitl [HT2]; · iexact HT2
      isplitl [Hb]; · iexact Hb
      iexact HPb
    isplitl [HP]; · unfold lanePos; iexact HP
    isplitl [T0 T1 T2 HC0 HC1 HC2]
    · isplitl [T0 HC0]
      · iapply (step_toks c 0); isplitl [T0] <;> iassumption
      isplitl [T1 HC1]
      · iapply (step_toks c 1); isplitl [T1] <;> iassumption
      iapply (step_toks c 2); isplitl [T2] <;> iassumption
    isplitl [HRc]; · iexact HRc
    isplitl [HA]; · unfold arrs; iexact HA
    iexact HL
  · iempintro

theorem start_stage (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ bufs c) from rfl, scopedRest0_eq]
  iintro ⟨Hs, -, Hb⟩
  isplitl [Hs]; · iexact Hs
  unfold bufs; iexact Hb

theorem done_exit (c : Dev nD) :
    (dats m 0 c).Φ (Fin.last cfg0.N)
      ⊢ iprop((unscopedSems0 c ∗ arrs (Xm m) (Wm m) c (outAll (Xm m) (Wm m) c)) ∗ Pipeline.ownSems0 osem c ∗ Pipeline.scopedRest cfg0.spec c) := by
  rw [show (dats m 0 c).Φ (Fin.last cfg0.N) = done m c from rfl, scopedRest0_eq, ownSems0_eq, unscopedSems0_eq]
  unfold done bufs
  iintro ⟨HB, HZ, Hb, HA, HL⟩
  isplitl [HB HA]
  · isplitl [HB] <;> iassumption
  isplitl [HZ HL]
  · isplitl [HZ] <;> iassumption
  iexact Hb

/-- What the final memory of device `c` holds. -/
def Fin₁ (c : Dev nD) (s : MemSt nD τ sig (Elt F)) : Prop :=
  s.mem ((c : Thread nD τ).loc main_v1) = outAll (Xm m) (Wm m) c
    ∧ s.mem ((c : Thread nD τ).loc main_arg0) = m ((c : Thread nD τ).loc main_arg0) ∧ s.mem ((c : Thread nD τ).loc main_arg1) = m ((c : Thread nD τ).loc main_arg1)

theorem final_read (c : Dev nD) (s' : Phys nD τ sig (Elt F)) :
    iprop((unscopedSems0 c ∗ arrs (Xm m) (Wm m) c (outAll (Xm m) (Wm m) c)) ∗ emp ∗ SI s')
      ⊢ (|={Set.univ}=> iprop(⌜(∀ sm : SemLoc sig, sm.isScoped .tc = false → s'.mem.sem ((c.tc : Thread nD τ), sm) = 0) ∧ Fin₁ m c s'.mem⌝ ∗ SI s') : sProp 𝕄) := by
  unfold arrs
  iintro ⟨⟨Hu, HX, HW, HY⟩, -, HSI⟩
  icombine HSI HX gives %hx
  icombine HSI HW gives %hw
  icombine HSI HY gives %hy
  ihave %hs := (tcUnscoped_read c s') $$ [Hu HSI]
  · isplitl [Hu] <;> iassumption
  imodintro
  isplitr
  · ipureintro; exact ⟨hs, funext fun i => hy i (Finset.mem_univ i), funext fun i => hx i (Finset.mem_univ i), funext fun i => hw i (Finset.mem_univ i)⟩
  iexact HSI

/-- From any memory with zero counters, every execution of the kernel on the four devices ends; then every device's
    result array holds its computed block, its arguments are unchanged and every counter is zero. -/
theorem run_main : θ_run defs (onTc (τ := τ) (main (F := F))) ⟨m, fun _ => 0, ρ⟩ (fun r => (∀ c, Fin₁ m c r.2) ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) (0 : ℕ) 0 c fun w => w.elim0)
    (G := G (Xm m) (Wm m)) (G' := G' (Xm m) (Wm m)) (u₀ := u₀)
    (hu₀ := by
      unfold u₀
      iintro Hu
      ihave H := (ownU_split _ _) $$ Hu
      icases H with ⟨HP, HX⟩
      imod (fund_ring (Xm m) (Wm m)) $$ HX with HG
      imodintro
      isplitl [HP] <;> iassumption)
    (hglob := glob (Xm m) (Wm m))
    (hA := fun _ w => w.elim0) (hpf := fun _ k => k.elim0)
    (X := start m) (Y := fun c => iprop(unscopedSems0 c ∗ arrs (Xm m) (Wm m) c (outAll (Xm m) (Wm m) c))) (Z := fun _ => iprop(emp))
    (hX := start_intro m ρ) (hin := start_stage m) (hout := done_exit m)
    (QY := fun c s => (∀ sm : SemLoc sig, sm.isScoped .tc = false → s.sem ((c.tc : Thread nD τ), sm) = 0) ∧ Fin₁ m c s)
    (hY := final_read m)
    (hQ := fun _ h hs => ⟨fun c => (h c).2.2.2, sem_eq_zero hs fun c => (h c).2.2.1⟩)

end Run

end Cert.KernelIdeal.Rs

end
-- ==== Proof.Value.lean ====
/-
  The value at exact arithmetic: what one block computes, what a device's result holds, what the reference computes,
  and that the first is the device's block of the second.
-/
module

public import proofs.«01_k».proof.Proof.Ideal.Values
public import proofs.«01_k».proof.Proof.Gen.ReferenceIdeal
public import Idealize.ShloMosaic.Lib.Layout
public import Idealize.ShloMosaic.Lib.StackMember
public import Idealize.ShloMosaic.Lib.KernelVsHost

@[expose] public section

set_option maxRecDepth 65536

noncomputable section

namespace Cert.KernelIdeal.Rs

open Idealize.ShloMosaic Idealize.ShloMosaic.TcCoe
open Idealize.ShloMosaic.ValueIdx (ix2 ix3 eq_ix2)
open Cert.KernelIdeal.Gen

open Cert.ReferenceIdeal (S8192x8192 S8192x4096)

/-! ## What one block computes -/

/-- One leading pair of unit axes dropped. -/
theorem drop2 {a b : ℕ} (h : (⟨4, ![1, 1, a, b]⟩ : Shape).numel = (⟨2, ![a, b]⟩ : Shape).numel) (x : Fin a) (y : Fin b) :
    Shape.reshapeEquiv h (ValueIdx.ix4 (0 : Fin 1) (0 : Fin 1) x y) = ix2 x y :=
  Shape.reshapeEquiv_eq_of_rowMajor h (by
    rw [Shape.rowMajor_val_four, Shape.rowMajor_val_two]
    show x.val * b + y.val = (((0 * 1 + 0) * a + x.val) * b + y.val)
    simp)
/-- One leading unit axis dropped. -/
theorem drop1 {a b : ℕ} (h : (⟨3, ![1, a, b]⟩ : Shape).numel = (⟨2, ![a, b]⟩ : Shape).numel) (x : Fin a) (y : Fin b) :
    Shape.reshapeEquiv h (ix3 (0 : Fin 1) x y) = ix2 x y :=
  Shape.reshapeEquiv_eq_of_rowMajor h (by
    rw [Shape.rowMajor_val_three, Shape.rowMajor_val_two]
    show x.val * b + y.val = ((0 * a + x.val) * b + y.val)
    simp)

/-- The product of a row block and a column half of the weights. -/
def mm (x : Vec Ideal S256x2048 .f32) (w : Vec Ideal S2048x2048 .bf16) (a : Fin 256) (n : Fin 2048) : EReal :=
  ∑ k : Fin 2048, x (ix2 a k) * w (ix2 k n)

theorem mm_eq (x : Vec Ideal S256x2048 .f32) (w : Vec Ideal S2048x2048 .bf16) (a : Fin 256) (n : Fin 2048) :
    k0_pay29 x w (ix2 a n) = mm x w a n := by
  have e : k0_pay29 x w (ix2 a n) = matmul (φ₁ := .bf16) (φ₂ := .bf16) dot_S256x2048_S2048x2048_S256x2048_1_0_0_1_n_n none (x : FVec Ideal S256x2048 .bf16) w (constant S256x2048 .f32 0x00000000#32) (ix2 a n) := rfl
  rw [e, matmul_zero_eq_dotGeneral]
  exact StackMember.dotGeneral_plain_apply (φ₁ := .bf16) (φ₂ := .bf16) none x w a n

theorem first_at (x : Vec Ideal S256x2048 .f32) (w : Vec Ideal S2048x2048 .bf16) (a : Fin 256) (n : Fin 2048) :
    k0_pay9 x w (ValueIdx.ix4 (0 : Fin 1) (0 : Fin 1) a n) = mm x w a n := by
  show k0_pay29 x w (Shape.reshapeEquiv _ (ValueIdx.ix4 (0 : Fin 1) (0 : Fin 1) a n)) = _
  exact (congrArg (k0_pay29 x w) (drop2 _ a n)).trans (mm_eq x w a n)

theorem add_at (x : Vec Ideal S256x2048 .f32) (w : Vec Ideal S2048x2048 .bf16) (v : Vec Ideal S1x1x256x2048 .bf16) (a : Fin 256) (n : Fin 2048) :
    k0_pay21 x w v (ValueIdx.ix4 (0 : Fin 1) (0 : Fin 1) a n) = mm x w a n + v (ValueIdx.ix4 (0 : Fin 1) (0 : Fin 1) a n) := by
  have e : k0_pay21 x w v (ValueIdx.ix4 (0 : Fin 1) (0 : Fin 1) a n)
      = k0_pay29 x w (Shape.reshapeEquiv shapeCasts_S256x2048_S1x1x256x2048 (ValueIdx.ix4 (0 : Fin 1) (0 : Fin 1) a n))
        + v (Shape.reshapeEquiv shapeCasts_S1x1x256x2048_S256x2048 (Shape.reshapeEquiv shapeCasts_S256x2048_S1x1x256x2048 (ValueIdx.ix4 (0 : Fin 1) (0 : Fin 1) a n))) := rfl
  have e2 : Shape.reshapeEquiv shapeCasts_S256x2048_S1x1x256x2048 (ValueIdx.ix4 (0 : Fin 1) (0 : Fin 1) a n) = ix2 a n := drop2 _ a n
  have e3 : Shape.reshapeEquiv shapeCasts_S1x1x256x2048_S256x2048 (ix2 a n) = ValueIdx.ix4 (0 : Fin 1) (0 : Fin 1) a n := ValueIdx.reshapeEquiv_ix2_11ab _ a n
  rw [e, e2, e3, mm_eq]

theorem out_at (u : FVec Ideal S256x2048 .f32) (v : Vec Ideal S1x1x256x2048 .bf16) (a : Fin 256) (n : Fin 2048) :
    k0_pay30 u v (ix3 (0 : Fin 1) a n) = u (ix2 a n) + v (ValueIdx.ix4 (0 : Fin 1) (0 : Fin 1) a n) := by
  have e : k0_pay30 u v (ix3 (0 : Fin 1) a n)
      = u (Shape.reshapeEquiv shapeCasts_S256x2048_S1x256x2048 (ix3 (0 : Fin 1) a n))
        + v (Shape.reshapeEquiv shapeCasts_S1x1x256x2048_S256x2048 (Shape.reshapeEquiv shapeCasts_S256x2048_S1x256x2048 (ix3 (0 : Fin 1) a n))) := rfl
  have e2 : Shape.reshapeEquiv shapeCasts_S256x2048_S1x256x2048 (ix3 (0 : Fin 1) a n) = ix2 a n := drop1 _ a n
  have e3 : Shape.reshapeEquiv shapeCasts_S1x1x256x2048_S256x2048 (ix2 a n) = ValueIdx.ix4 (0 : Fin 1) (0 : Fin 1) a n := ValueIdx.reshapeEquiv_ix2_11ab _ a n
  rw [e, e2, e3]

/-! ## What the array holds -/

section Array
variable (X : Dev nD → Vec Ideal S8192x2048 .f32) (W : Dev nD → Vec Ideal S2048x4096 .f32)

/-- Device `e`'s part of an element of the product. -/
def part (e : Dev nD) (R : Fin 8192) (N : Fin 4096) : EReal := ∑ k : Fin 2048, X e (ix2 R k) * W e (ix2 k N)

theorem mm_part (c : Dev nD) (ch : ℕ) (hch : ch < 4) (l : Fin 2) (q : Fin 4) (di : Fin 2) (a : Fin 256) (n : Fin 2048) (R : Fin 8192) (N : Fin 4096)
    (hR : R.val = 2048 * ch + 1024 * l.val + 256 * q.val + a.val) (hN : N.val = 2048 * di.val + n.val) :
    mm (xrow (X c) (rowOff ch hch l q)) (whalf (W c) di) a n = part X W c R N := by
  refine Finset.sum_congr rfl fun k _ => ?_
  have ex : xrow (X c) (rowOff ch hch l q) (ix2 a k) = X c (ix2 R k) := by
    unfold xrow
    congr 1
    funext b
    match b with
    | 0 => exact Fin.ext ((emb_val _ 0).trans hR.symm)
    | 1 => exact Fin.ext ((emb_val _ 1).trans (Nat.zero_add _))
  have ew : whalf (W c) di (ix2 k n) = W c (ix2 k N) := by
    show W c ((rHalf di).emb (ix2 k n)) = _
    congr 1
    funext b
    match b with
    | 0 => exact Fin.ext ((emb_val _ 0).trans (Nat.zero_add _))
    | 1 => exact Fin.ext ((emb_val _ 1).trans hN.symm)
  rw [ex, ew]

/-- A row of 1024 is a row of one of four blocks of 256. -/
theorem row_split (r : Fin 1024) : ∃ (q : Fin 4) (a : Fin 256), r.val = 256 * q.val + a.val :=
  ⟨⟨r.val / 256, by omega⟩, ⟨r.val % 256, Nat.mod_lt _ (by decide)⟩, (Nat.div_add_mod r.val 256).symm⟩

theorem joinRows_at (B : Fin 4 → Vec Ideal S1x1x256x2048 .bf16) (r : Fin 1024) (n : Fin 2048) (q : Fin 4) (a : Fin 256) (h : r.val = 256 * q.val + a.val) :
    joinRows B (ix2 r n) = B q (ValueIdx.ix4 (0 : Fin 1) (0 : Fin 1) a n) := by
  have e1 : (⟨r.val / 256, by omega⟩ : Fin 4) = q := Fin.ext (by show r.val / 256 = q.val; omega)
  have e2 : (⟨r.val % 256, Nat.mod_lt _ (by decide)⟩ : Fin 256) = a := Fin.ext (by show r.val % 256 = a.val; omega)
  have e3 : joinRows B (ix2 r n) = B (⟨r.val / 256, by omega⟩ : Fin 4) (ValueIdx.ix4 (0 : Fin 1) (0 : Fin 1) (⟨r.val % 256, Nat.mod_lt _ (by decide)⟩ : Fin 256) n) := rfl
  rw [e3, e1, e2]

theorem rowsOf_at (V : Vec Ideal S1024x2048 .bf16) (r : Fin 1024) (n : Fin 2048) (q : Fin 4) (a : Fin 256) (h : r.val = 256 * q.val + a.val) :
    rowsOf V q (ValueIdx.ix4 (0 : Fin 1) (0 : Fin 1) a n) = V (ix2 r n) := by
  have e : r = ⟨256 * q.val + a.val, by omega⟩ := Fin.ext h
  rw [e]
  rfl

theorem firstP_at (di l : Fin 2) (c : Dev nD) (r : Fin 1024) (n : Fin 2048) (R : Fin 8192) (N : Fin 4096)
    (hR : R.val = 2048 * chunk 0 di c + 1024 * l.val + r.val) (hN : N.val = 2048 * di.val + n.val) :
    firstP X W di l c (ix2 r n) = part X W c R N := by
  obtain ⟨q, a, hr⟩ := row_split r
  unfold firstP
  rw [joinRows_at _ r n q a hr, first_at]
  exact mm_part X W c _ _ l q di a n R N (by rw [hR, hr, Nat.add_assoc (2048 * chunk 0 di c + 1024 * l.val)]) hN

theorem addP_at (di l : Fin 2) (h : Fin 3) (c : Dev nD) (V : Vec Ideal S1024x2048 .bf16) (r : Fin 1024) (n : Fin 2048) (R : Fin 8192) (N : Fin 4096)
    (hR : R.val = 2048 * chunk h di c + 1024 * l.val + r.val) (hN : N.val = 2048 * di.val + n.val) :
    addP X W di l h c V (ix2 r n) = part X W c R N + V (ix2 r n) := by
  obtain ⟨q, a, hr⟩ := row_split r
  unfold addP
  rw [joinRows_at _ r n q a hr, add_at, rowsOf_at V r n q a hr,
    mm_part X W c _ _ l q di a n R N (by rw [hR, hr, Nat.add_assoc (2048 * chunk h di c + 1024 * l.val)]) hN]

theorem chunk_up : ∀ (di : Fin 2) (c : Dev nD), chunk 1 di (upD di c) = chunk 2 di c ∧ chunk 0 di (upD di (upD di c)) = chunk 2 di c ∧ chunk 2 di (upD di c) = c.val := by
  decide

/-- After the last hop a device holds three devices' parts. -/
theorem built_at (di l : Fin 2) (c : Dev nD) (r : Fin 1024) (n : Fin 2048) (R : Fin 8192) (N : Fin 4096)
    (hR : R.val = 2048 * chunk 2 di c + 1024 * l.val + r.val) (hN : N.val = 2048 * di.val + n.val) :
    built X W di l 2 c (ix2 r n) = part X W c R N + (part X W (upD di c) R N + part X W (upD di (upD di c)) R N) := by
  show addP X W di l 2 c (addP X W di l 1 (upD di c) (firstP X W di l (upD di (upD di c)))) (ix2 r n) = _
  rw [addP_at X W di l 2 c _ r n R N hR hN, addP_at X W di l 1 (upD di c) _ r n R N (by rw [(chunk_up di c).1]; exact hR) hN,
    firstP_at X W di l _ r n R N (by rw [(chunk_up di c).2.1]; exact hR) hN]

/-- The four devices, in the order of a direction. -/
theorem all_devs : ∀ (di : Fin 2) (c : Dev nD), (Finset.univ : Finset (Dev nD)) = {c, upD di c, upD di (upD di c), upD di (upD di (upD di c))} := by decide
theorem devs_ne : ∀ (di : Fin 2) (c : Dev nD), c ∉ ({upD di c, upD di (upD di c), upD di (upD di (upD di c))} : Finset (Dev nD))
    ∧ upD di c ∉ ({upD di (upD di c), upD di (upD di (upD di c))} : Finset (Dev nD)) ∧ upD di (upD di c) ∉ ({upD di (upD di (upD di c))} : Finset (Dev nD)) := by decide

theorem sum_devs (di : Fin 2) (c : Dev nD) (f : Dev nD → EReal) :
    ∑ e, f e = f c + (f (upD di c) + (f (upD di (upD di c)) + f (upD di (upD di (upD di c))))) := by
  obtain ⟨h1, h2, h3⟩ := devs_ne di c
  rw [all_devs di c, Finset.sum_insert h1, Finset.sum_insert h2, Finset.sum_insert h3, Finset.sum_singleton]

/-- An element of a device's result is the sum of all devices' parts of it. -/
theorem outAll_at (c : Dev nD) (i : Fin 2048) (j : Fin 4096) (R : Fin 8192) (hR : R.val = 2048 * c.val + i.val) :
    outAll X W c (ix2 i j) = ∑ e, part X W e R j := by
  have hi := i.2
  have hj := j.2
  have key : ∀ (di l : Fin 2) (q : Fin 4) (a : Fin 256) (n : Fin 2048), i.val = 1024 * l.val + 256 * q.val + a.val → j.val = 2048 * di.val + n.val →
      outBlk X W di l q c (ix3 (0 : Fin 1) a n) = ∑ e, part X W e R j := by
    intro di l q a n h0 h1
    have hq := q.2
    have ha := a.2
    unfold outBlk
    rw [out_at, mm_eq, mm_part X W c c.val c.isLt l q di a n R j (by omega) h1, sum_devs di c]
    rw [rowsOf_at _ (⟨256 * q.val + a.val, by omega⟩ : Fin 1024) n q a rfl,
      built_at X W di l (upD di c) _ n R j (by rw [(chunk_up di c).2.2, hR, h0]; show _ = 2048 * c.val + 1024 * l.val + (256 * q.val + a.val); omega) h1]
  exact key ⟨j.val / 2048, by omega⟩ ⟨i.val / 1024, by omega⟩ ⟨i.val % 1024 / 256, by omega⟩ ⟨i.val % 256, Nat.mod_lt _ (by decide)⟩ ⟨j.val % 2048, Nat.mod_lt _ (by decide)⟩
    (by show i.val = 1024 * (i.val / 1024) + 256 * (i.val % 1024 / 256) + i.val % 256; omega) (by show j.val = 2048 * (j.val / 2048) + j.val % 2048; omega)

end Array

/-! ## What the reference computes -/

/-- A contraction over 8192 in four blocks of 2048. -/
theorem sum_blocks (f : Fin 8192 → EReal) : ∑ k, f k = ∑ e : Fin 4, ∑ k : Fin 2048, f ⟨2048 * e.val + k.val, by omega⟩ := by
  rw [← Fintype.sum_prod_type' (fun (e : Fin 4) (k : Fin 2048) => f ⟨2048 * e.val + k.val, by omega⟩)]
  exact (Equiv.sum_comp (finProdFinEquiv : Fin 4 × Fin 2048 ≃ Fin (4 * 2048)) f).symm.trans
    (Finset.sum_congr rfl fun x _ => congrArg f (Fin.ext (by show x.2.val + 2048 * x.1.val = 2048 * x.1.val + x.2.val; omega)))

/-- The reference's product. -/
abbrev refP (A : Vec Ideal S8192x8192 .f32) (B : Vec Ideal S8192x4096 .f32) : Vec Ideal S8192x4096 .f32 :=
  Host.dotGeneral (F := Ideal) (φ₁ := .f32) (φ₂ := .f32) Cert.ReferenceIdeal.dot_S8192x8192_S8192x4096_S8192x4096_1_0_0_1_n_n none A B

theorem ref_at (A : Vec Ideal S8192x8192 .f32) (B : Vec Ideal S8192x4096 .f32) (R : Fin 8192) (N : Fin 4096) :
    refP A B (ix2 R N) = ∑ k : Fin 8192, A (ix2 R k) * B (ix2 k N) := StackMember.dotGeneral_plain_apply (φ₁ := .f32) (φ₂ := .f32) none A B R N

/-! ## The equation -/

/-- From blocks of columns of `A` and blocks of rows of `B`, device `c`'s result is its block of rows of their product. -/
theorem value (A : Vec Ideal S8192x8192 .f32) (B : Vec Ideal S8192x4096 .f32) (X : Dev nD → Vec Ideal S8192x2048 .f32) (W : Dev nD → Vec Ideal S2048x4096 .f32)
    (hX : ∀ c, X c = Layout.block ⟨2, ![8192, 2048]⟩ ⟨2, ![8192, 8192]⟩ 1 4 c A) (hW : ∀ c, W c = Layout.block ⟨2, ![2048, 4096]⟩ ⟨2, ![8192, 4096]⟩ 0 4 c B) (c : Dev nD) :
    outAll X W c = Layout.block ⟨2, ![2048, 4096]⟩ ⟨2, ![8192, 4096]⟩ 0 4 c (refP A B) := by
  funext i
  have hc : c.val < 4 := c.2
  have h0 : (i 0).val < 2048 := (i 0).isLt
  obtain ⟨R, hR⟩ : ∃ R : Fin 8192, R.val = 2048 * c.val + (i 0).val := ⟨⟨2048 * c.val + (i 0).val, by omega⟩, rfl⟩
  have el : outAll X W c i = ∑ e, part X W e R (i 1) := by
    conv_lhs => rw [eq_ix2 i]
    exact outAll_at X W c (i 0) (i 1) R hR
  have er : (Layout.block ⟨2, ![2048, 4096]⟩ ⟨2, ![8192, 4096]⟩ 0 4 c (refP A B) : Vec Ideal S2048x4096 .f32) i = refP A B (ix2 R (i 1)) := by
    rw [Layout.block_apply]
    congr 1
    funext b
    match b with
    | 0 => exact Fin.ext (by show c.val * 2048 + (i 0).val = R.val; omega)
    | 1 => rfl
  rw [el, er]
  refine Eq.trans ?_ (ref_at A B R (i 1)).symm
  rw [sum_blocks]
  refine Finset.sum_congr rfl fun e _ => Finset.sum_congr rfl fun k _ => ?_
  have eX : X e (ix2 R k) = A (ix2 R (⟨2048 * e.val + k.val, by have : e.val < 4 := e.2; omega⟩ : Fin 8192)) := by
    rw [hX, Layout.block_apply]
    congr 1
    funext b
    match b with
    | 0 => rfl
    | 1 => exact Fin.ext (by show e.val * 2048 + k.val = 2048 * e.val + k.val; omega)
  have eW : W e (ix2 k (i 1)) = B (ix2 (⟨2048 * e.val + k.val, by have : e.val < 4 := e.2; omega⟩ : Fin 8192) (i 1)) := by
    rw [hW, Layout.block_apply]
    congr 1
    funext b
    match b with
    | 0 => exact Fin.ext (by show e.val * 2048 + k.val = 2048 * e.val + k.val; omega)
    | 1 => rfl
  rw [eX, eW]

end Cert.KernelIdeal.Rs

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ideal.Run
public import proofs.«01_k».proof.Proof.Bits.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as it is runs to its end on every device, leaves its arguments alone and every counter at zero. -/
theorem frame_kernel : Cert.quiescent_Kernel := by
  intro m ρ _
  exact (θ_run _ _ _).mono (fun r h => ⟨fun c => (h.1 c).2, h.2⟩) (Cert.Kernel.Rs.run_main (F := Bits) m ρ)

/-- The same at exact arithmetic. -/
theorem frame_ideal : Cert.quiescent_KernelIdeal := by
  intro m ρ _
  exact (θ_run _ _ _).mono (fun r h => ⟨fun c => (h.1 c).2, h.2⟩) (Cert.KernelIdeal.Rs.run_main (F := Ideal) m ρ)

/-- The same of the reference, which has no counter. -/
theorem frame_reference : Cert.quiescent_ReferenceIdeal := by
  intro m ρ _
  exact (θ_run _ _ _).mono (fun r h => ⟨fun c => (h c).2, sem_eq_zero_of_no_sems (by decide) r.2⟩)
    (Cert.ReferenceIdeal.Value.run (F := Ideal) m ρ)

/-- Each device's result is its block of rows of the reference's product of the whole arrays. -/
theorem value_claim : Cert.algebraic_KernelIdeal_ReferenceIdeal := by
  intro m ρ m' ρ' _ hagree
  refine ⟨Cert.KernelIdeal.Rs.refP (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run _ _ _).mono (fun r h c => ⟨(h.1 c).1.trans (Cert.KernelIdeal.Rs.value _ _ _ _ (fun c => (hagree c).1) (fun c => (hagree c).2) c), (h.1 c).2⟩)
      (Cert.KernelIdeal.Rs.run_main (F := Ideal) m ρ)
  · exact (θ_run _ _ _).mono (fun r h => h 0) (Cert.ReferenceIdeal.Value.run (F := Ideal) m' ρ')

/-- All five claims. -/
theorem claim : Cert.Claim :=
  ⟨Cert.Kernel.Gen.facts, Cert.KernelIdeal.Gen.facts, Cert.ReferenceIdeal.Gen.facts,
    frame_kernel, frame_ideal, frame_reference, trivial, value_claim⟩

end Cert.Proof

end
